-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x3x128x512 : Shape := ⟨4, ![2, 3, 128, 512]⟩
abbrev S2x128x512 : Shape := ⟨3, ![2, 128, 512]⟩
abbrev S2x3 : Shape := ⟨2, ![2, 3]⟩
abbrev S_ : Shape := ⟨0, ![]⟩
abbrev S128x512 : Shape := ⟨2, ![128, 512]⟩
abbrev S1x1x128x512 : Shape := ⟨4, ![1, 1, 128, 512]⟩
abbrev S1x1 : Shape := ⟨2, ![1, 1]⟩
abbrev S1x128x512 : Shape := ⟨3, ![1, 128, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S1024x512, .f32⟩
  | .local _ .vmem, ⟨0, _⟩ => ⟨S1024x512, .bf16⟩
  | .local _ .vmem, ⟨1, _⟩ => ⟨S1024x512, .f32⟩
  | .local _ .vmem, ⟨2, _⟩ => ⟨S2x3x128x512, .bf16⟩
  | .local _ .vmem, ⟨3, _⟩ => ⟨S2x3x128x512, .bf16⟩
  | .local _ .vmem, ⟨4, _⟩ => ⟨S2x128x512, .bf16⟩
  | .local _ .vmem, ⟨5, _⟩ => ⟨S2x3x128x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_13 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c2_i32_13
  let c4_i32_14 : BitVec 32 := 4#32
  let v17 : BitVec 32 := Scalar.remsi v16 c4_i32_14
  let c256_i32 : BitVec 32 := 256#32
  let v18 : BitVec 32 := Scalar.muli v17 c256_i32
  let v19 : BitVec 32 := Scalar.addi v18 c0_i32_15
  let v20 : Index := Scalar.indexCast v19
  let c0 : Index := 0#32
  ![v20.toNat, 0]
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let v16 : BitVec 32 := Scalar.addi v2 c2_i32_13
  let c4_i32_14 : BitVec 32 := 4#32
  let v17 : BitVec 32 := Scalar.remsi v16 c4_i32_14
  let c1_i32_27 : BitVec 32 := 1#32
  let v26 : BitVec 32 := Scalar.muli v17 c1_i32_27
  let v27 : BitVec 32 := Scalar.addi c0_i32_28 v26
  v27.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v36 : BitVec 32 := Scalar.addi v2 c1_i32_33
  let c4_i32_34 : BitVec 32 := 4#32
  let v37 : BitVec 32 := Scalar.remsi v36 c4_i32_34
  let c1_i32_50 : BitVec 32 := 1#32
  let v46 : BitVec 32 := Scalar.muli v37 c1_i32_50
  let v47 : BitVec 32 := Scalar.addi c0_i32_51 v46
  v47.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v56 : BitVec 32 := Scalar.addi v2 c3_i32_56
  let c4_i32_57 : BitVec 32 := 4#32
  let v57 : BitVec 32 := Scalar.remsi v56 c4_i32_57
  let c1_i32_72 : BitVec 32 := 1#32
  let v66 : BitVec 32 := Scalar.muli v57 c1_i32_72
  let v67 : BitVec 32 := Scalar.addi c0_i32_73 v66
  v67.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_78 : BitVec 32 := 2#32
  let v76 : BitVec 32 := Scalar.addi v2 c2_i32_78
  let c4_i32_79 : BitVec 32 := 4#32
  let v77 : BitVec 32 := Scalar.remsi v76 c4_i32_79
  let c1_i32_94 : BitVec 32 := 1#32
  let v86 : BitVec 32 := Scalar.muli v77 c1_i32_94
  let v87 : BitVec 32 := Scalar.addi c0_i32_95 v86
  v87.toNat
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_100 : BitVec 32 := 1#32
  let v96 : BitVec 32 := Scalar.addi v2 c1_i32_100
  let c4_i32_101 : BitVec 32 := 4#32
  let v97 : BitVec 32 := Scalar.remsi v96 c4_i32_101
  let c1_i32_117 : BitVec 32 := 1#32
  let v106 : BitVec 32 := Scalar.muli v97 c1_i32_117
  let v107 : BitVec 32 := Scalar.addi c0_i32_118 v106
  v107.toNat
def k0_dev9 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_123 : BitVec 32 := 3#32
  let v116 : BitVec 32 := Scalar.addi v2 c3_i32_123
  let c4_i32_124 : BitVec 32 := 4#32
  let v117 : BitVec 32 := Scalar.remsi v116 c4_i32_124
  let c1_i32_140 : BitVec 32 := 1#32
  let v126 : BitVec 32 := Scalar.muli v117 c1_i32_140
  let v127 : BitVec 32 := Scalar.addi c0_i32_141 v126
  v127.toNat
def k0_off2 (d0 : Dev nD) (c0_i32_189 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_188 : BitVec 32 := 256#32
  let v160 : BitVec 32 := Scalar.muli v2 c256_i32_188
  let v161 : BitVec 32 := Scalar.addi v160 c0_i32_189
  let v162 : Index := Scalar.indexCast v161
  let c0_190 : Index := 0#32
  ![v162.toNat, 0]
def k0_dev10 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_206 : BitVec 32 := 1#32
  let v190 : BitVec 32 := Scalar.addi v2 c1_i32_206
  let c4_i32_207 : BitVec 32 := 4#32
  let v191 : BitVec 32 := Scalar.remsi v190 c4_i32_207
  let c1_i32_215 : BitVec 32 := 1#32
  let v192 : BitVec 32 := Scalar.muli v191 c1_i32_215
  let v193 : BitVec 32 := Scalar.addi c0_i32_216 v192
  v193.toNat
def k0_dev11 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_221 : BitVec 32 := 2#32
  let v202 : BitVec 32 := Scalar.addi v2 c2_i32_221
  let c4_i32_222 : BitVec 32 := 4#32
  let v203 : BitVec 32 := Scalar.remsi v202 c4_i32_222
  let c1_i32_230 : BitVec 32 := 1#32
  let v204 : BitVec 32 := Scalar.muli v203 c1_i32_230
  let v205 : BitVec 32 := Scalar.addi c0_i32_231 v204
  v205.toNat
def k0_dev12 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_236 : BitVec 32 := 3#32
  let v214 : BitVec 32 := Scalar.addi v2 c3_i32_236
  let c4_i32_237 : BitVec 32 := 4#32
  let v215 : BitVec 32 := Scalar.remsi v214 c4_i32_237
  let c1_i32_245 : BitVec 32 := 1#32
  let v216 : BitVec 32 := Scalar.muli v215 c1_i32_245
  let v217 : BitVec 32 := Scalar.addi c0_i32_246 v216
  v217.toNat
def k0_dev13 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_315 : BitVec 32 := 1#32
  let v284 : BitVec 32 := Scalar.addi v2 c1_i32_315
  let c4_i32_316 : BitVec 32 := 4#32
  let v285 : BitVec 32 := Scalar.remsi v284 c4_i32_316
  let c1_i32_324 : BitVec 32 := 1#32
  let v286 : BitVec 32 := Scalar.muli v285 c1_i32_324
  let v287 : BitVec 32 := Scalar.addi c0_i32_325 v286
  v287.toNat
def k0_dev14 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_330 : BitVec 32 := 2#32
  let v296 : BitVec 32 := Scalar.addi v2 c2_i32_330
  let c4_i32_331 : BitVec 32 := 4#32
  let v297 : BitVec 32 := Scalar.remsi v296 c4_i32_331
  let c1_i32_339 : BitVec 32 := 1#32
  let v298 : BitVec 32 := Scalar.muli v297 c1_i32_339
  let v299 : BitVec 32 := Scalar.addi c0_i32_340 v298
  v299.toNat
def k0_dev15 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_345 : BitVec 32 := 3#32
  let v308 : BitVec 32 := Scalar.addi v2 c3_i32_345
  let c4_i32_346 : BitVec 32 := 4#32
  let v309 : BitVec 32 := Scalar.remsi v308 c4_i32_346
  let c1_i32_354 : BitVec 32 := 1#32
  let v310 : BitVec 32 := Scalar.muli v309 c1_i32_354
  let v311 : BitVec 32 := Scalar.addi c0_i32_355 v310
  v311.toNat
def k0_off3 (d0 : Dev nD) (c1_i32_376 : BitVec 32) (c0_i32_384 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v332 : BitVec 32 := Scalar.subi v2 c1_i32_376
  let c4_i32_377 : BitVec 32 := 4#32
  let v333 : BitVec 32 := Scalar.addi v332 c4_i32_377
  let c4_i32_378 : BitVec 32 := 4#32
  let v334 : BitVec 32 := Scalar.remsi v333 c4_i32_378
  let c256_i32_383 : BitVec 32 := 256#32
  let v338 : BitVec 32 := Scalar.muli v334 c256_i32_383
  let v339 : BitVec 32 := Scalar.addi v338 c0_i32_384
  let v340 : Index := Scalar.indexCast v339
  let c0_385 : Index := 0#32
  ![v340.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4x1024x512, .f32⟩
  | .hbm, ⟨3, _⟩ => ⟨S_, .f32⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Slots.lean ====
/-
# Slots: the parts of the four scratch buffers, and what a load or store of one part does

The kernel keeps four scratch buffers: a stage for outgoing partial rows, a landing zone for the partial rows that
arrive, a stage for the finished rows a device sends out, and a landing zone for the finished rows of the others. Each
is cut into slots of 128 by 512, one per half (`h`) and per distance to the peer (`o`, the distance less one). This
module names the slots as memrefs and gives the rules for a load or a store of one slot, in terms of `owns`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Tactic

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Rectangles -/

theorem inb4 : ∀ (h : Fin 2) (o : Fin 3), ∀ a, (![h.val, o.val, 0, 0] : Fin 4 → ℕ) a + S1x1x128x512.size a ≤ S2x3x128x512.size a := by decide
theorem inb3 : ∀ h : Fin 2, ∀ a, (![h.val, 0, 0] : Fin 3 → ℕ) a + S1x128x512.size a ≤ S2x128x512.size a := by decide
theorem inb2 : ∀ (p : Fin 4) (h : Fin 2), ∀ a, (![256 * p.val + 128 * h.val, 0] : Fin 2 → ℕ) a + S128x512.size a ≤ S1024x512.size a := by decide

/-- Slot (h, o) of a buffer of six slots. -/
abbrev r4 (h : Fin 2) (o : Fin 3) : Rect S2x3x128x512 := Rect.unit (s := S2x3x128x512) ![h.val, o.val, 0, 0] S1x1x128x512.size (inb4 h o)
/-- Slot h of the buffer of two slots. -/
abbrev r3 (h : Fin 2) : Rect S2x128x512 := Rect.unit (s := S2x128x512) ![h.val, 0, 0] S1x128x512.size (inb3 h)
/-- The rows of half `h` of block `p` of an array of four blocks of 256 rows. -/
abbrev rowR (p : Fin 4) (h : Fin 2) : Rect S1024x512 := Rect.unit (s := S1024x512) ![256 * p.val + 128 * h.val, 0] S128x512.size (inb2 p h)

/-- Two unit-stride rectangles at equal offsets are one. -/
theorem unit_eq {s : Shape} {off off' size : Fin s.rank → ℕ} (e : off = off') (i : ∀ a, off a + size a ≤ s.size a) (i' : ∀ a, off' a + size a ≤ s.size a) :
    Rect.unit off size i = Rect.unit off' size i' := by subst e; rfl

/-! ## Slots as memrefs -/

abbrev slot (M : Memref sig .tc .vmem S2x3x128x512 .bf16) (h : Fin 2) (o : Fin 3) : Memref sig .tc .vmem S128x512 .bf16 :=
  (M.slice (r4 h o) (fun _ => rfl)).squeeze S128x512 squeezes_S1x1x128x512_S128x512

abbrev xM : Memref sig .tc .vmem S1024x512 .bf16 := Memref.whole cc0_stg0_0
abbrev oM : Memref sig .tc .vmem S1024x512 .f32 := Memref.whole cc0_stg1_0
/-- The stage of outgoing partial rows, the landing zone of partial rows, the stage and the landing zone of finished rows. -/
abbrev stB : Memref sig .tc .vmem S2x3x128x512 .bf16 := Memref.whole cc0_scratch0
abbrev rsB : Memref sig .tc .vmem S2x3x128x512 .bf16 := Memref.whole cc0_scratch1
abbrev asB : Memref sig .tc .vmem S2x128x512 .bf16 := Memref.whole cc0_scratch2
abbrev agB : Memref sig .tc .vmem S2x3x128x512 .bf16 := Memref.whole cc0_scratch3

abbrev asS (h : Fin 2) : Memref sig .tc .vmem S128x512 .bf16 :=
  (asB.slice (r3 h) (fun _ => rfl)).squeeze S128x512 squeezes_S1x128x512_S128x512

variable {F : FTy → Type} [FloatOps F]
variable {Name U : Type} [DecidableEq Name] [URA U]

local notation "𝕄" => MT nD τ sig Unit (Elt F) Name U ℕ

/-! ## Loads and stores of a slot -/

section Access

variable (𝒱 : Variants) (c : Dev nD)
variable {s s' : Shape} {e : EltTy} (M : Memref sig .tc .vmem s e) (r : Rect s) (hr : ∀ a, r.stride a = 1) (hq : r.shape.Squeezes s')

omit [FloatOps F] in
/-- What a squeezed slice reads is what the slice reads, at the matching index. -/
theorem read_sq (f : M.view.ty.Contents (Elt F)) (x : s'.Idx) :
    ((M.slice r hr).squeeze s' hq).view.read (Elt F) f x = M.view.readAt (Elt F) r.toLoadRect f (Shape.reshapeEquiv hq.numel_eq x) := rfl

theorem set_sq : ((M.slice r hr).squeeze s' hq).view.set = (M.access r).set := View.set_reshape _ _

/-- A load of the slot reads what it is owned at, in the slice's shape. -/
theorem wp_load_slot {hl : M.view.LoadsAt r.toLoadRect} {q : PosShare TreeShare} {X : s'.Idx → Elt F e}
    {α : Type} {Q : α → sProp 𝕄} {k : (r.shape.Idx → Elt F e) → Prog (TpuEff nD τ sig (Elt F) Λ₀ .tc) α} {E : Set Name}
    (hc : s'.ShapeCasts r.shape) :
    owns (c : Thread nD τ) ((M.slice r hr).squeeze s' hq) q X
      ⊢ iprop((owns (c : Thread nD τ) ((M.slice r hr).squeeze s' hq) q X -∗ wp frame (wpE (defs₀ (F := F)) 𝒱 (c : Thread nD τ) none) E (k (shapeCast r.shape X hc)) Q)
        -∗ wp frame (wpE (defs₀ (F := F)) 𝒱 (c : Thread nD τ) none) E (.op (.load M r.toLoadRect hl) k) Q) := by
  unfold owns
  iintro ⟨%f, %hf, H⟩ Hk
  iapply (wp_load 𝒱 (c : Thread nD τ) none E (m := M) (r := r.toLoadRect) (S := ((M.slice r hr).squeeze s' hq).view.set)
    (by rw [set_sq]; exact (View.set_slice_subset_setOn M.view r).antisymm (by rw [View.set_slice]; exact Finset.Subset.refl _) |>.symm.subset)) $$ H
  iintro H
  have hv : M.view.readAt (Elt F) r.toLoadRect f = shapeCast r.shape X hc := by
    funext j
    show _ = X (Shape.reshapeEquiv hc j)
    rw [← hf, read_sq]
    congr 1
    exact (show Shape.reshapeEquiv hq.numel_eq (Shape.reshapeEquiv hc j) = j by rw [Shape.reshapeEquiv_reshapeEquiv, Shape.reshapeEquiv_self]).symm
  rw [hv]
  iapply Hk
  iexists f
  isplitr; · ipureintro; exact hf
  iexact H

/-- A store to the slot leaves it owned at the payload, in the slot's shape. -/
theorem wp_store_slot {w : r.shape.Idx → Elt F e} {hx : (M.access r).Stores Finset.univ} {hm : (Finset.univ : Finset r.shape.Idx) = Finset.univ ∨ ∀ a, r.stride a = 1}
    {X : s'.Idx → Elt F e} {α : Type} {Q : α → sProp 𝕄} {k : PUnit → Prog (TpuEff nD τ sig (Elt F) Λ₀ .tc) α} {E : Set Name}
    (hc : r.shape.ShapeCasts s') :
    owns (c : Thread nD τ) ((M.slice r hr).squeeze s' hq) fullShare X
      ⊢ iprop((owns (c : Thread nD τ) ((M.slice r hr).squeeze s' hq) fullShare (shapeCast s' w hc) -∗ wp frame (wpE (defs₀ (F := F)) 𝒱 (c : Thread nD τ) none) E (k ⟨⟩) Q)
        -∗ wp frame (wpE (defs₀ (F := F)) 𝒱 (c : Thread nD τ) none) E (.op (.store M r w Finset.univ hx hm) k) Q) := by
  unfold owns
  iintro ⟨%f, %hf, H⟩ Hk
  iapply (wp_store 𝒱 (c : Thread nD τ) none E (m := M) (r := r) (Mk := Finset.univ) (S := ((M.slice r hr).squeeze s' hq).view.set)
    (by rw [set_sq]; exact Finset.Subset.refl _)) $$ H
  iintro H
  iapply Hk
  iexists _
  isplitr
  swap; · iexact H
  ipureintro
  funext x
  rw [read_sq, View.readAt_rect]
  exact View.read_write_of_mem (v := M.access r) f w (Finset.mem_univ _)

end Access

end Cert.Tanh4

end
-- ==== Proof.Protocol.lean ====
/-
# Protocol: who hands what to whom, and when

Four devices. Device `c` calls `pe c o` the peer `o + 1` places after it and `og c o` the peer `o + 1` places before it, so
`pe (og c o) o = c`. The kernel runs in three phases.

* Entry. `c` signals the barrier semaphore of each peer and waits for three signals on its own. Its signal to `pe c o` hands
  that peer the landing slots on `c` which the peer will write: the slots of distance `rev o`, since `pe (pe c o) (rev o) = c`.
* Partial rows. For each half `h` and each `o`, `c` copies its rows of block `pe c o` to slot (h, o) of that peer's landing
  zone. The arrival pays the receive cell (1, h, o) of the peer and the departure pays `c`'s own send cell (0, h, o).
* Finished rows. `c` adds its own rows and the three that arrived, applies the function, and copies the result, rounded to
  bf16, to slot (h, o) of the second landing zone of each `pe c o`. The arrival pays the cell (3, h, o) of the peer; the
  departure pays `c`'s own cell (2, h, o), which gives back a third of the share of the outgoing rows.

A cell of a DMA semaphore has one duty, the barrier cell three; all are of round 0. The levels are 1 for the barrier, 2 for
the arrivals of partial rows, 3 for the arrivals of finished rows, 0 for the rest: at each wait a device owes only to cells
of a higher level.
-/
module

public import proofs.«01_k».proof.Proof.Slots

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's own cells, and the cells of this protocol with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Peers -/

set_option backward.proofsInPublic true in
/-- The peer `o + 1` places after `c`. -/
def pe (c : Dev nD) (o : Fin 3) : Dev nD := ⟨(c.val + o.val + 1) % 4, Nat.mod_lt _ (by decide)⟩
set_option backward.proofsInPublic true in
/-- The peer `o + 1` places before `c`. -/
def og (c : Dev nD) (o : Fin 3) : Dev nD := ⟨(c.val + 3 - o.val) % 4, Nat.mod_lt _ (by decide)⟩

theorem pe_og : ∀ (c : Dev nD) (o : Fin 3), pe (og c o) o = c := by decide
theorem og_pe : ∀ (c : Dev nD) (o : Fin 3), og (pe c o) o = c := by decide
theorem og_eq : ∀ (c : Dev nD) (o : Fin 3), og c o = pe c o.rev := by decide

/-- Moving `o + 1` places on, as a permutation of the devices. -/
def shift (o : Fin 3) : Dev nD ≃ Dev nD := ⟨fun c => pe c o, fun c => og c o, fun c => og_pe c o, fun c => pe_og c o⟩

/-! ## Contents -/

/-- The rows of half `h` of block `p` of an array of four blocks of 256 rows. -/
def rows {α : Type} (x : S1024x512.Idx → α) (p : Dev nD) (h : Fin 2) : S128x512.Idx → α := fun i => x ((rowR p h).emb i)

/-- Device `c`'s operand in its staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s rows of half `h` of block `p`. -/
def xr (c p : Dev nD) (h : Fin 2) : Vec F S128x512 .bf16 := rows (xstg m ρ c) p h

/-- The function of the four devices' rows: their sum `s`, then `tanh s * s * s + max(s, 0) ^ 3`. -/
def fn (x0 x1 x2 x3 : Vec F S128x512 .bf16) : FVec F S128x512 .f32 :=
  let s : FVec F S128x512 .f32 := addf (addf (addf (extf .f32 x0 bitsLt_bf16_f32) (extf .f32 x1 bitsLt_bf16_f32)) (extf .f32 x2 bitsLt_bf16_f32)) (extf .f32 x3 bitsLt_bf16_f32)
  let r : FVec F S128x512 .f32 := maximumf s (broadcast S128x512 (Scalar.ofBits .f32 0x00000000#32))
  addf (mulf (mulf (tanh s) s) s) (mulf (mulf r r) r)

/-- The rows of half `h` which device `c` finishes: its own rows of its own block, then those of the devices before it. -/
def fin (c : Dev nD) (h : Fin 2) : FVec F S128x512 .f32 :=
  fn (xr m ρ c c h) (xr m ρ (og c 0) c h) (xr m ρ (og c 1) c h) (xr m ρ (og c 2) c h)

/-- The same rounded to bf16, as sent. -/
def snt (c : Dev nD) (h : Fin 2) : FVec F S128x512 .bf16 := truncf .bf16 (fin m ρ c h) bitsLt_bf16_f32

/-! ## Cells -/

/-- The runtime's barrier semaphore. -/
abbrev barS : Sem sig := (SemArray.scalar (sig.barrier 0 rfl) : Sems sig S_).sem

/-- A DMA cell's name: 0 departure and 1 arrival of partial rows, 2 departure and 3 arrival of finished rows; half; distance. -/
abbrev K : Type := Fin 4 × Fin 2 × Fin 3

set_option backward.proofsInPublic true in
/-- The DMA semaphore of that name. -/
def dq (k : K) : DmaSem sig := ⟨2 + 6 * k.1.val + 3 * k.2.1.val + k.2.2.val, by have := k.1.isLt; have := k.2.1.isLt; have := k.2.2.isLt; show _ < 26; omega⟩
set_option backward.proofsInPublic true in
/-- The name of a DMA semaphore. -/
def kq (q : DmaSem sig) : K := (⟨(q.val - 2) / 6 % 4, Nat.mod_lt _ (by decide)⟩, ⟨(q.val - 2) / 3 % 2, Nat.mod_lt _ (by decide)⟩, ⟨(q.val - 2) % 3, Nat.mod_lt _ (by decide)⟩)

theorem kq_dq : ∀ k : K, kq (dq k) = k := by decide

abbrev osem : K → SemLoc sig := fun k => .dma (dq k)
abbrev barCell (c : Dev nD) : GSem nD τ sig := ((c : Thread nD τ), .reg barS)
abbrev dCell (c : Dev nD) (k : K) : GSem nD τ sig := ((c : Thread nD τ), .dma (dq k))

/-- The credit of one slot. -/
abbrev N : ℕ := (slot rsB 0 0).view.dmaCredit
theorem N_pos : 0 < N := View.dmaCredit_pos _ (by decide)

/-! ## What the duties hand over -/

/-- A slot at any contents. -/
def anyS (c : Dev nD) (M : Memref sig .tc .vmem S128x512 .bf16) : sProp 𝕄 := iprop(∃ X, owns (c : Thread nD τ) M fullShare X)

/-- The landing slots of distance `o` on device `p`. -/
def land (p : Dev nD) (o : Fin 3) : sProp 𝕄 :=
  iprop((anyS p (slot rsB 0 o) ∗ anyS p (slot rsB 1 o)) ∗ anyS p (slot agB 0 o) ∗ anyS p (slot agB 1 o))

/-- The three shares of a stage of finished rows, one for each copy that reads it. -/
def shr (o : Fin 3) : PosShare TreeShare := match o with | 0 => fullShare.left | 1 => fullShare.right.left | 2 => fullShare.right.right

/-- What the cell of name `k` on device `c` hands over. -/
def pay (c : Dev nD) (k : K) : sProp 𝕄 :=
  match k with
  | (0, h, o) => anyS c (slot stB h o)
  | (1, h, o) => owns (c : Thread nD τ) (slot rsB h o) fullShare (xr m ρ (og c o) c h)
  | (2, h, o) => owns (c : Thread nD τ) (asS h) (shr o) (snt m ρ c h)
  | (3, h, o) => owns (c : Thread nD τ) (slot agB h o) fullShare (snt m ρ (og c o) h)

omit [FloatOps F] in
instance anyS_storable (c : Dev nD) (M) : BI.Storable (upEmb : UEmb _ 𝕄) (anyS (F := F) c M) := by unfold anyS; infer_instance
omit [FloatOps F] in
instance land_storable (c : Dev nD) (o) : BI.Storable (upEmb : UEmb _ 𝕄) (land (F := F) c o) := by unfold land; infer_instance
instance pay_storable (c : Dev nD) (k) : BI.Storable (upEmb : UEmb _ 𝕄) (pay (F := F) m ρ c k) := by
  unfold pay; split <;> infer_instance

/-! ## The schedule -/

def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => land (og g.1.1 d) d.rev | .dma q => pay m ρ g.1.1 (kq q)
  amount_pos g _ _ _ := by
    rcases g with ⟨t, q | q⟩
    · exact Nat.one_pos
    · exact N_pos

instance Rd_storable (g : GSem nD τ sig) (r : ℕ) (d : Fin 3) : BI.Storable (upEmb : UEmb _ 𝕄) ((Rd (F := F) m ρ).payload g r d) := by
  rcases g with ⟨t, q | q⟩
  · exact land_storable _ _
  · exact pay_storable m ρ _ _

section Sched
variable (c : Dev nD) (k : K)

theorem duties_bar : (Rd (F := F) m ρ).duties (barCell c) 0 = Finset.univ := rfl
theorem duties_dma : (Rd (F := F) m ρ).duties (dCell c k) 0 = {0} := rfl
theorem duties_later (g : GSem nD τ sig) : ∀ r, 1 ≤ r → (Rd (F := F) m ρ).duties g r = ∅ :=
  fun r hr => if_neg fun h => by omega
theorem amount_bar (d : Fin 3) : (Rd (F := F) m ρ).amount (barCell c) 0 d = 1 := rfl
theorem amount_dma (d : Fin 3) : (Rd (F := F) m ρ).amount (dCell c k) 0 d = N := rfl
theorem expect_bar : (Rd (F := F) m ρ).expect (barCell c) 0 = 3 := by
  unfold Schedule.expect Schedule.amountOf
  rw [duties_bar, Finset.sum_congr rfl fun d _ => amount_bar m ρ c d]; rfl
theorem expect_dma : (Rd (F := F) m ρ).expect (dCell c k) 0 = N := by
  unfold Schedule.expect Schedule.amountOf; rw [duties_dma, Finset.sum_singleton, amount_dma]
theorem payload_bar (d : Fin 3) : (Rd (F := F) m ρ).payload (barCell c) 0 d = land (og c d) d.rev := rfl
theorem payload_dma (d : Fin 3) : (Rd (F := F) m ρ).payload (dCell c k) 0 d = pay m ρ c k := by
  show pay m ρ c (kq (dq k)) = _
  rw [kq_dq]
theorem rest_bar : bigSep ((Rd (F := F) m ρ).duties (barCell c) 0 \ ∅) (fun d => (Rd (F := F) m ρ).payload (barCell c) 0 d)
    = iprop(land (pe c 2) 2 ∗ land (pe c 1) 1 ∗ land (pe c 0) 0) := by
  rw [Finset.sdiff_empty, duties_bar, bigSep_univ_eq_bigSepL [0, 1, 2] (by decide) (by decide), bigSepL_cons_cons, bigSepL_cons_cons, bigSepL_singleton,
    payload_bar, payload_bar, payload_bar, og_eq, og_eq, og_eq]
  rfl
theorem rest_dma : bigSep ((Rd (F := F) m ρ).duties (dCell c k) 0 \ ∅) (fun d => (Rd (F := F) m ρ).payload (dCell c k) 0 d) = pay m ρ c k := by
  rw [Finset.sdiff_empty, duties_dma, bigSep_singleton, payload_dma]

end Sched

/-! ## Dues and levels -/

/-- A due: to the peer at which distance, at which semaphore, how much. -/
abbrev Due : Type := Fin 3 × SemLoc sig × ℕ

/-- What device `d` owes its peers by a list of dues, the head to be paid first. -/
def owe (d : Dev nD) : List Due → CellTallies nD τ sig Unit
  | [] => 0
  | e :: l => owe d l + tallyAt ((pe d e.1 : Thread nD τ), e.2.1) () e.2.2

/-- What the peers owe device `c` by the same list. -/
def got (c : Dev nD) : List Due → CellTallies nD τ sig Unit
  | [] => 0
  | e :: l => got c l + tallyAt ((c : Thread nD τ), e.2.1) () e.2.2

abbrev d1 (h : Fin 2) (o : Fin 3) : Due := (o, osem (1, h, o), N)
abbrev d3 (h : Fin 2) (o : Fin 3) : Due := (o, osem (3, h, o), N)
abbrev dB (o : Fin 3) : Due := (o, .reg barS, 1)

/-- What is owed once the finished rows of the first half are sent, -/
abbrev dues3 : List Due := [d3 1 0, d3 1 1, d3 1 2]
/-- once the partial rows are sent, -/
abbrev dues2 : List Due := d3 0 0 :: d3 0 1 :: d3 0 2 :: dues3
/-- once the barrier is signalled, -/
abbrev dues1 : List Due := d1 0 1 :: d1 0 0 :: d1 0 2 :: d1 1 1 :: d1 1 0 :: d1 1 2 :: dues2
/-- at launch. -/
abbrev dues0 : List Due := dB 0 :: dB 1 :: dB 2 :: dues1

def L (g : GSem nD τ sig) : Finset Unit := if g.1.2 = .tc then {()} else ∅
def lvS (sm : SemLoc sig) : ℕ := match sm with
  | .reg _ => 1
  | .dma q => if q.val < 8 then 0 else if q.val < 14 then 2 else if q.val < 20 then 0 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {d : Dev nD} {l : List Due} {g : GSem nD τ sig} {u : Unit} (h : 0 < owe d l g u) : ∃ e ∈ l, g = ((pe d e.1 : Thread nD τ), e.2.1) := by
  induction l with
  | nil => exact absurd h (Nat.lt_irrefl 0)
  | cons e l ih =>
    rw [owe, Pi.add_apply, Finsupp.add_apply] at h
    rcases Nat.add_pos_iff_pos_or_pos.mp h with h | h
    · obtain ⟨x, hx, e'⟩ := ih h
      exact ⟨x, List.mem_cons_of_mem _ hx, e'⟩
    · exact ⟨e, List.mem_cons_self, (Pipeline.tallyAt_pos h).1⟩

omit [FloatOps F] in
/-- A wait on a semaphore below every due in the list. -/
theorem mayWait (c : Dev nD) (sm : SemLoc sig) (l : List Due) (hl : ∀ e ∈ l, lvS sm < lvS e.2.1) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨e, -, rfl⟩ := owe_pos hg; rw [L_tc]; exact Finset.mem_singleton_self _)
    (fun p hp => by rw [Finset.mem_singleton.mp hp]; exact le_rfl)
    (fun g u hg => by obtain ⟨e, he, rfl⟩ := owe_pos hg; exact hl e he)

/-- Summed over the devices, what they owe is what they are owed. -/
theorem sum_owe (l : List Due) : (∑ d : Dev nD, owe d l) = ∑ c : Dev nD, got c l := by
  induction l with
  | nil => rfl
  | cons e l ih =>
    simp only [owe, got, Finset.sum_add_distrib, ih]
    congr 1
    exact Equiv.sum_comp (shift e.1) fun c : Dev nD => (tallyAt ((c : Thread nD τ), e.2.1) () e.2.2 : CellTallies nD τ sig Unit)

theorem got_own (c : Dev nD) (l : List Due) (g : GSem nD τ sig) (h : got c l g ≠ 0) : g.1 = (c.tc : Thread nD τ) := by
  induction l with
  | nil => exact absurd rfl h
  | cons e l ih =>
    by_contra hn
    refine h ?_
    have h1 : got c l g = 0 := by by_contra h2; exact hn (ih h2)
    rw [got, Pi.add_apply, h1, zero_add]
    exact tallyAt_ne_cell (fun e' : g = ((c : Thread nD τ), e.2.1) => hn (congrArg Prod.fst e')) _ _

omit [FloatOps F] in
/-- A device's launch credit is what it is owed. -/
theorem launch_got (c : Dev nD) (l : List Due) : (Pipeline.launchCred (fun d => owe d l) c : sProp 𝕄) = cred (got c l) :=
  Pipeline.launchCred_of_sum _ (fun d => got d l) (sum_owe l) (fun d g h => got_own d l g h) c

end Cert.Tanh4

end
-- ==== Proof.Program.lean ====
/-
# The kernel's body as a short program

The body printed for the kernel is unrolled over the halves and the distances. Here it is written as a sequence of a few
pieces, each over a half `h` and a distance `o` (counted from 0, so the peer is `o + 1` places away), and the two are shown to
be the same program.
-/
module

public import proofs.«01_k».proof.Proof.Protocol

@[expose] public section

noncomputable section

namespace Cert.Tanh4

open Cert.KernelIdeal Cert.KernelIdeal.Gen
open Idealize.ShloMosaic
open Idealize.ShloMosaic.TcCoe
open Idealize.SL.Sem

variable {F : FTy → Type} [FloatOps F]

abbrev PG (α : Type) : Type _ := Prog (TpuEff nD τ sig (Elt F) Λ₀ .tc) α

/-! ## Rectangles as the program computes them -/

theorem off1_inb : ∀ (d : Dev nD) (o : Fin 3) (h : Fin 2), ∀ a, k0_off1 d (BitVec.ofNat 32 (1 + o.val)) (BitVec.ofNat 32 (128 * h.val)) a + S128x512.size a ≤ S1024x512.size a := k0_off1_inb
theorem off2_inb : ∀ (d : Dev nD) (h : Fin 2), ∀ a, k0_off2 d (BitVec.ofNat 32 (128 * h.val)) a + S128x512.size a ≤ S1024x512.size a := k0_off2_inb
theorem off3_inb : ∀ (d : Dev nD) (o : Fin 3) (h : Fin 2), ∀ a, k0_off3 d (BitVec.ofNat 32 (1 + o.val)) (BitVec.ofNat 32 (128 * h.val)) a + S128x512.size a ≤ S1024x512.size a := k0_off3_inb

/-- The rows of half `h` of the peer's block, of the device's own, and of the block whose finished rows have arrived. -/
abbrev rc1 (d : Dev nD) (h : Fin 2) (o : Fin 3) : Rect S1024x512 := Rect.unit (s := S1024x512) (k0_off1 d (BitVec.ofNat 32 (1 + o.val)) (BitVec.ofNat 32 (128 * h.val))) S128x512.size (off1_inb d o h)
abbrev rc2 (d : Dev nD) (h : Fin 2) : Rect S1024x512 := Rect.unit (s := S1024x512) (k0_off2 d (BitVec.ofNat 32 (128 * h.val))) S128x512.size (off2_inb d h)
abbrev rc3 (d : Dev nD) (h : Fin 2) (o : Fin 3) : Rect S1024x512 := Rect.unit (s := S1024x512) (k0_off3 d (BitVec.ofNat 32 (1 + o.val)) (BitVec.ofNat 32 (128 * h.val))) S128x512.size (off3_inb d o h)

theorem words4 (h : Fin 2) (o : Fin 3) : (r4 h o).WholeWords (EltTy.packing .bf16) := by
  fin_cases h <;> fin_cases o
  · exact wordsbf16_S2x3x128x512_S1x1x128x512_0_0_0_0
  · exact wordsbf16_S2x3x128x512_S1x1x128x512_0_1_0_0
  · exact wordsbf16_S2x3x128x512_S1x1x128x512_0_2_0_0
  · exact wordsbf16_S2x3x128x512_S1x1x128x512_1_0_0_0
  · exact wordsbf16_S2x3x128x512_S1x1x128x512_1_1_0_0
  · exact wordsbf16_S2x3x128x512_S1x1x128x512_1_2_0_0

theorem packed4 (h : Fin 2) (o : Fin 3) : (r4 h o).PackedRows (EltTy.packing .bf16) := by
  fin_cases h <;> fin_cases o
  · exact packedbf16_S2x3x128x512_S1x1x128x512_0_0_0_0
  · exact packedbf16_S2x3x128x512_S1x1x128x512_0_1_0_0
  · exact packedbf16_S2x3x128x512_S1x1x128x512_0_2_0_0
  · exact packedbf16_S2x3x128x512_S1x1x128x512_1_0_0_0
  · exact packedbf16_S2x3x128x512_S1x1x128x512_1_1_0_0
  · exact packedbf16_S2x3x128x512_S1x1x128x512_1_2_0_0

theorem words3 (h : Fin 2) : (r3 h).WholeWords (EltTy.packing .bf16) := by
  fin_cases h
  · exact wordsbf16_S2x128x512_S1x128x512_0_0_0
  · exact wordsbf16_S2x128x512_S1x128x512_1_0_0

theorem packed3 (h : Fin 2) : (r3 h).PackedRows (EltTy.packing .bf16) := by
  fin_cases h
  · exact packedbf16_S2x128x512_S1x128x512_0_0_0
  · exact packedbf16_S2x128x512_S1x128x512_1_0_0

/-! ## The pieces -/

theorem we3 (h : Fin 2) : (asS h).view.WordExact := ((Memref.isWhole_whole cc0_scratch2).wordExact_slice rfl _ (words3 h)).reshape _ _

/-- A wait on a DMA semaphore for one slot's credit. -/
def wt (q : DmaSem sig) (src dst : Memref sig .tc .vmem S128x512 .bf16) (h₁ : src.view.WordExact) (h₂ : dst.view.WordExact) : PG (F := F) PUnit :=
  Prog.lift (.waitDma2 q src dst h₁ h₂)

theorem weS (h : Fin 2) (o : Fin 3) : (slot stB h o).view.WordExact := ((Memref.isWhole_whole cc0_scratch0).wordExact_slice rfl _ (words4 h o)).reshape _ _
theorem weR (h : Fin 2) (o : Fin 3) : (slot rsB h o).view.WordExact := ((Memref.isWhole_whole cc0_scratch1).wordExact_slice rfl _ (words4 h o)).reshape _ _
theorem weG (h : Fin 2) (o : Fin 3) : (slot agB h o).view.WordExact := ((Memref.isWhole_whole cc0_scratch3).wordExact_slice rfl _ (words4 h o)).reshape _ _

/-- The handshake at entry: a signal to each peer and the wait for theirs. -/
def hello (n0 n1 n2 : Dev nD) : PG (F := F) PUnit := do
  semSignalWord n0 barS 1#32
  semSignalWord n1 barS 1#32
  semSignalWord n2 barS 1#32
  semWaitWord barS 3#32

/-- The rows of half `h` meant for the peer `n`, staged and sent. -/
def put (d n : Dev nD) (h : Fin 2) (o : Fin 3) : PG (F := F) PUnit := do
  let v : Vec F S128x512 .bf16 ← Prog.lift (.load xM (rc1 d h o).toLoadRect (View.loadsAt_vmem h_S128x512))
  let _ : Vec F S1x1x128x512 .bf16 ← Prog.lift (.load stB (r4 h o).toLoadRect (View.loadsAt_vmem h_S1x1x128x512))
  Prog.lift (.store stB (r4 h o) (k0_pay1 v) Finset.univ (View.stores_vmem h_S1x1x128x512 ((Memref.isWhole_whole cc0_scratch0).storeExact_slice rfl _ (packed4 h o)) (fun _ => rfl)) (.inl rfl))
  Prog.lift (.enqueueDma (slot stB h o) (.remote (Dev.tc n) (slot rsB h o) (.dma (dq (0, h, o)))) (.dma (dq (1, h, o))) (weS h o) (weR h o) ⟨⟨rfl, Or.inl rfl⟩, trivial⟩)

/-- One copy of the finished rows of half `h`, to the peer `n`. -/
def push (n : Dev nD) (h : Fin 2) (o : Fin 3) : PG (F := F) PUnit :=
  Prog.lift (.enqueueDma (asS h) (.remote (Dev.tc n) (slot agB h o) (.dma (dq (2, h, o)))) (.dma (dq (3, h, o))) (we3 h) (weG h o) ⟨⟨rfl, Or.inl rfl⟩, trivial⟩)

/-- The function as printed, of the rows loaded. -/
def fnp (x : Vec F S128x512 .bf16) (a b e : Vec F S1x1x128x512 .bf16) : FVec F S128x512 .f32 := k0_pay13 (k0_pay12 x) a b e

/-- Half `h` finished: the three arrivals, the sum, the function, the three copies out and the store of the own rows. -/
def finish (d n0 n1 n2 : Dev nD) (h : Fin 2) : PG (F := F) PUnit := do
  wt (dq (1, h, 0)) (slot stB h 0) (slot rsB h 0) (weS h 0) (weR h 0)
  wt (dq (1, h, 1)) (slot stB h 1) (slot rsB h 1) (weS h 1) (weR h 1)
  wt (dq (1, h, 2)) (slot stB h 2) (slot rsB h 2) (weS h 2) (weR h 2)
  let x : Vec F S128x512 .bf16 ← Prog.lift (.load xM (rc2 d h).toLoadRect (View.loadsAt_vmem h_S128x512))
  let a : Vec F S1x1x128x512 .bf16 ← Prog.lift (.load rsB (r4 h 0).toLoadRect (View.loadsAt_vmem h_S1x1x128x512))
  let b : Vec F S1x1x128x512 .bf16 ← Prog.lift (.load rsB (r4 h 1).toLoadRect (View.loadsAt_vmem h_S1x1x128x512))
  let e : Vec F S1x1x128x512 .bf16 ← Prog.lift (.load rsB (r4 h 2).toLoadRect (View.loadsAt_vmem h_S1x1x128x512))
  let _ : Vec F S1x128x512 .bf16 ← Prog.lift (.load asB (r3 h).toLoadRect (View.loadsAt_vmem h_S1x128x512))
  Prog.lift (.store asB (r3 h) (shapeCast S1x128x512 (truncf .bf16 (fnp x a b e) bitsLt_bf16_f32) shapeCasts_S128x512_S1x128x512) Finset.univ
    (View.stores_vmem h_S1x128x512 ((Memref.isWhole_whole cc0_scratch2).storeExact_slice rfl _ (packed3 h)) (fun _ => rfl)) (.inl rfl))
  push n0 h 0
  push n1 h 1
  push n2 h 2
  let _ : Vec F S128x512 .f32 ← Prog.lift (.load oM (rc2 d h).toLoadRect (View.loadsAt_vmem h_S128x512))
  Prog.lift (.store oM (rc2 d h) (fnp x a b e) Finset.univ (View.stores_vmem_bits_univ h_S128x512 rfl) (.inl rfl))

/-- The finished rows of half `h` from the peer `o + 1` before, waited for and stored in the result. -/
def take (d : Dev nD) (h : Fin 2) (o : Fin 3) : PG (F := F) PUnit := do
  wt (dq (3, h, o)) (asS h) (slot agB h o) (we3 h) (weG h o)
  let v : Vec F S1x1x128x512 .bf16 ← Prog.lift (.load agB (r4 h o).toLoadRect (View.loadsAt_vmem h_S1x1x128x512))
  let _ : Vec F S128x512 .f32 ← Prog.lift (.load oM (rc3 d h o).toLoadRect (View.loadsAt_vmem h_S128x512))
  Prog.lift (.store oM (rc3 d h o) (k0_pay15 v) Finset.univ (View.stores_vmem_bits_univ h_S128x512 rfl) (.inl rfl))

/-- The departure of a copy of partial rows, and of a copy of finished rows, waited for. -/
def left0 (h : Fin 2) (o : Fin 3) : PG (F := F) PUnit := wt (dq (0, h, o)) (slot rsB h o) (slot stB h o) (weR h o) (weS h o)
def left2 (h : Fin 2) (o : Fin 3) : PG (F := F) PUnit := wt (dq (2, h, o)) (slot agB h o) (asS h) (weG h o) (we3 h)

/-! ## The program -/

def prog (d : Dev nD) : PG (F := F) PUnit := do
  hello ⟨k0_dev1 d, k0_dev1_lt d⟩ ⟨k0_dev2 d, k0_dev2_lt d⟩ ⟨k0_dev3 d, k0_dev3_lt d⟩
  put d ⟨k0_dev4 d, k0_dev4_lt d⟩ 0 1
  put d ⟨k0_dev5 d, k0_dev5_lt d⟩ 0 0
  put d ⟨k0_dev6 d, k0_dev6_lt d⟩ 0 2
  put d ⟨k0_dev7 d, k0_dev7_lt d⟩ 1 1
  put d ⟨k0_dev8 d, k0_dev8_lt d⟩ 1 0
  put d ⟨k0_dev9 d, k0_dev9_lt d⟩ 1 2
  finish d ⟨k0_dev10 d, k0_dev10_lt d⟩ ⟨k0_dev11 d, k0_dev11_lt d⟩ ⟨k0_dev12 d, k0_dev12_lt d⟩ 0
  finish d ⟨k0_dev13 d, k0_dev13_lt d⟩ ⟨k0_dev14 d, k0_dev14_lt d⟩ ⟨k0_dev15 d, k0_dev15_lt d⟩ 1
  take d 0 0
  take d 0 1
  take d 0 2
  take d 1 0
  take d 1 1
  take d 1 2
  left0 0 1
  left0 0 0
  left0 0 2
  left0 1 1
  left0 1 0
  left0 1 2
  left2 0 0
  left2 0 1
  left2 0 2
  left2 1 0
  left2 1 1
  left2 1 2

set_option maxRecDepth 100000 in
set_option maxHeartbeats 2000000 in
/-- The printed body is this program. -/
theorem body_eq : cc0_body_skel (F := F) xM (Memref.isWhole_whole _) oM (Memref.isWhole_whole _) stB (Memref.isWhole_whole _) rsB (Memref.isWhole_whole _)
    asB (Memref.isWhole_whole _) agB (Memref.isWhole_whole _) cc0_scratch4 cc0_scratch5 cc0_scratch6 cc0_scratch7
    = Prog.lift .deviceId >>= prog := by
  rfl

end Cert.Tanh4

end
-- ==== Proof.Steps.lean ====
/-
# The steps of the body

One rule for each piece of the program, at a half and a distance: what the piece needs, and what it leaves. Each is stated
for the piece followed by any continuation.
-/
module

public import proofs.«01_k».proof.Proof.Program

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev wpc (c : Dev nD) {α : Type} (p : PG (F := F) α) (Q : α → sProp 𝕄) : sProp 𝕄 :=
  wp frame (wpE (defs₀ (F := F)) 𝒱₀ (c : Thread nD τ) none) Set.univ p Q

/-! ## What every device knows: the invariants of all cells, and that each has reached its round 0 -/

/-- A cell of a device: its barrier, or the DMA cell of a name. -/
abbrev CI : Type := Dev nD × Option K
def gcell (p : CI) : GSem nD τ sig := match p.2 with | none => barCell p.1 | some k => dCell p.1 k

def records (κ : CI → ℕ) : sProp 𝕄 :=
  iprop((bigSep Finset.univ fun p : CI => cellInv ER (Rd m ρ) (κ p) (gcell p)) ∗ bigSep Finset.univ fun p : CI => reached ER (gcell p) 0)

instance records_persistent (κ : CI → ℕ) : BI.Persistent (records m ρ κ) := by unfold records; infer_instance

theorem inv_of_all (κ : CI → ℕ) (p : CI) :
    (bigSep Finset.univ fun p : CI => (cellInv ER (Rd m ρ) (κ p) (gcell p) : sProp 𝕄)) ⊢ cellInv ER (Rd m ρ) (κ p) (gcell p) :=
  bigSep_elim (Finset.mem_univ p)
omit [FloatOps F] in
theorem reached_of_all (p : CI) : (bigSep Finset.univ fun p : CI => (reached ER (gcell p) 0 : sProp 𝕄)) ⊢ reached ER (gcell p) 0 :=
  bigSep_elim (Finset.mem_univ p)
theorem inv_at (κ : CI → ℕ) (p : CI) : records m ρ κ ⊢ cellInv ER (Rd m ρ) (κ p) (gcell p) := by
  unfold records
  iintro ⟨H, -⟩
  iapply (inv_of_all m ρ κ p); iexact H
theorem reached_at (κ : CI → ℕ) (p : CI) : records m ρ κ ⊢ (reached ER (gcell p) 0 : sProp 𝕄) := by
  unfold records
  iintro ⟨-, H⟩
  iapply (reached_of_all p); iexact H

/-- What device `c` owes, whatever it waits on. -/
def ow (c : Dev nD) (O : CellTallies nD τ sig Unit) : sProp 𝕄 := iprop(∃ W, owes (c : Thread nD τ) O W)

abbrev tok (c : Dev nD) (k : K) : sProp 𝕄 := dutyTok ER (dCell c k) 0 (0 : Fin 3)
abbrev crd (c : Dev nD) (k : K) : sProp 𝕄 := cred (tallyAt (dCell c k) () N)
abbrev pos (c : Dev nD) (k : K) : sProp 𝕄 := atPos ER (dCell c k) 0 ∅ 0
abbrev zero (c : Dev nD) (k : K) : sProp 𝕄 := semVal (dCell c k) 0

/-! ## A wait on a DMA cell -/

set_option maxHeartbeats 400000 in
/-- The cell's payload, and its counter at zero. -/
theorem wp_wt (κ : CI → ℕ) (c : Dev nD) (k : K) (l : List Due) (hl : ∀ e ∈ l, lvS (osem k) < lvS e.2.1)
    {q : DmaSem sig} (hq : q = dq k)
    {src dst : Memref sig .tc .vmem S128x512 .bf16} {h₁ : src.view.WordExact} {h₂ : dst.view.WordExact} (hN : dst.view.dmaCredit = N)
    {α : Type} {Q : α → sProp 𝕄} {f : PUnit → PG (F := F) α} :
    iprop(records m ρ κ ∗ levAts L lv ∗ ow c (owe c l) ∗ crd c k ∗ pos c k)
      ⊢ iprop(((ow c (owe c l) ∗ pay m ρ c k ∗ zero c k) -∗ wpc c (f ⟨⟩) Q) -∗ wpc c (wt q src dst h₁ h₂ >>= f) Q) := by
  subst hq
  unfold ow
  iintro ⟨#HR, #Hlev, ⟨%W, HO⟩, Hc, Hat⟩ Hk
  simp only [wt, Prog.lift, Prog.bind_op, Prog.bind_ret]
  iapply (Rounds.wp_wait_rest_token 𝒱₀ ER (Rd m ρ) (c : Thread nD τ) none (κ := κ (c, some k)) (sm := .dma (dq k)) (k' := N)
      (fun K => by rw [wpE_waitDma2_eq, hN]) (Set.mem_univ _) () (O := owe c l) (W := W) (R := 0) (m := 0) (T := ∅)
      (by rw [Nat.zero_add, expect_dma])) $$ [Hc HO Hat]
  · isplitr; · iapply (inv_at m ρ κ (c, some k)); iexact HR
    isplitl [Hc]; · iexact Hc
    isplitl [HO]; · iexact HO
    isplitr; · iapply (mayWait c (osem k) l hl); iexact Hlev
    iexact Hat
  iintro ⟨HO, Hat, -, Hpay⟩
  ihave Hp := (Entails.of_eq (rest_dma m ρ c k)) $$ Hpay
  imod (Rounds.cell_close ER (Rd m ρ) (Set.mem_univ (κ (c, some k))) (fun h => h) (R := 0 + 1) (duties_later m ρ (dCell c k))) $$ [Hat] with Hz
  · isplitr; · iapply (inv_at m ρ κ (c, some k)); iexact HR
    iexact Hat
  iapply Hk
  isplitl [HO]; · iexists _; iexact HO
  isplitl [Hp] <;> iassumption

/-! ## The handshake -/

set_option maxHeartbeats 400000 in
/-- One signal: the landing slots of distance `rev o` handed to the peer. -/
theorem wp_sig (κ : CI → ℕ) (c n : Dev nD) (o : Fin 3) (hn : n = pe c o) (l : List Due)
    {α : Type} {Q : α → sProp 𝕄} {f : PUnit → PG (F := F) α} :
    iprop(records m ρ κ ∗ ow c (owe c (dB o :: l)) ∗ dutyTok ER (barCell (pe c o)) 0 o ∗ land c o.rev)
      ⊢ iprop((ow c (owe c l) -∗ wpc c (f ⟨⟩) Q) -∗ wpc c (semSignalWord n barS 1#32 >>= f) Q) := by
  subst hn
  unfold ow
  iintro ⟨#HR, ⟨%W, HO⟩, Ht, Hl⟩ Hk
  simp only [semSignalWord, Prog.lift, Prog.bind_op, Prog.bind_ret]
  iapply (Rounds.wp_signal 𝒱₀ ER (Rd m ρ) (c : Thread nD τ) none (dst := (pe c o : Thread nD τ)) (κ := κ (pe c o, none))
      (d := o) (by rw [duties_bar]; exact Finset.mem_univ _) ((amount_bar m ρ (pe c o) o).trans (by decide)) () (owe c l) rfl)
    $$ [HO Ht Hl]
  · isplitr; · iapply (inv_at m ρ κ (pe c o, none)); iexact HR
    isplitl [HO]; · iexact HO
    isplitl [Ht]; · iexact Ht
    isplitl [Hl]; · rw [payload_bar, og_pe]; iexact Hl
    iapply (reached_at m ρ κ (pe c o, none)); iexact HR
  iintro HO
  iapply Hk
  iexists W; iexact HO

set_option maxHeartbeats 400000 in
theorem wp_hello (κ : CI → ℕ) (c n0 n1 n2 : Dev nD) (h0 : n0 = pe c 0) (h1 : n1 = pe c 1) (h2 : n2 = pe c 2)
    {α : Type} {Q : α → sProp 𝕄} {f : PUnit → PG (F := F) α} :
    iprop(records m ρ κ ∗ levAts L lv ∗ ow c (owe c dues0)
        ∗ (dutyTok ER (barCell (pe c 0)) 0 (0 : Fin 3) ∗ dutyTok ER (barCell (pe c 1)) 0 (1 : Fin 3) ∗ dutyTok ER (barCell (pe c 2)) 0 (2 : Fin 3))
        ∗ (land c 0 ∗ land c 1 ∗ land c 2)
        ∗ cred (tallyAt (barCell c) () 3) ∗ atPos ER (barCell c) 0 ∅ 0)
      ⊢ iprop(((ow c (owe c dues1) ∗ (land (pe c 0) 0 ∗ land (pe c 1) 1 ∗ land (pe c 2) 2) ∗ semVal (barCell c) 0) -∗ wpc c (f ⟨⟩) Q)
          -∗ wpc c (hello n0 n1 n2 >>= f) Q) := by
  iintro ⟨#HR, #Hlev, HO, ⟨Ht0, Ht1, Ht2⟩, ⟨Hl0, Hl1, Hl2⟩, Hc, Hat⟩ Hk
  unfold hello
  simp only [Prog.bind_assoc]
  iapply (wp_sig m ρ κ c n0 0 h0) $$ [HO Ht0 Hl2]
  · isplitr; · iexact HR
    isplitl [HO]; · iexact HO
    isplitl [Ht0]; · iexact Ht0
    iexact Hl2
  iintro HO
  iapply (wp_sig m ρ κ c n1 1 h1) $$ [HO Ht1 Hl1]
  · isplitr; · iexact HR
    isplitl [HO]; · iexact HO
    isplitl [Ht1]; · iexact Ht1
    iexact Hl1
  iintro HO
  iapply (wp_sig m ρ κ c n2 2 h2) $$ [HO Ht2 Hl0]
  · isplitr; · iexact HR
    isplitl [HO]; · iexact HO
    isplitl [Ht2]; · iexact Ht2
    iexact Hl0
  unfold ow
  iintro ⟨%W, HO⟩
  simp only [semWaitWord, Prog.lift, Prog.bind_op, Prog.bind_ret]
  iapply (Rounds.wp_wait_rest_token 𝒱₀ ER (Rd m ρ) (c : Thread nD τ) none (κ := κ (c, none))
      (wpE_semWait_eq 𝒱₀ (c : Thread nD τ) none Set.univ) (Set.mem_univ _) () (O := owe c dues1) (W := W) (R := 0) (m := 0) (T := ∅)
      (by rw [expect_bar]; decide)) $$ [Hc HO Hat]
  · isplitr; · iapply (inv_at m ρ κ (c, none)); iexact HR
    isplitl [Hc]; · iexact Hc
    isplitl [HO]; · iexact HO
    isplitr; · iapply (mayWait c (.reg barS) dues1 (by decide)); iexact Hlev
    iexact Hat
  iintro ⟨HO, Hat, -, Hpay⟩
  ihave Hp := (Entails.of_eq (rest_bar m ρ c)) $$ Hpay
  icases Hp with ⟨Hp2, Hp1, Hp0⟩
  imod (Rounds.cell_close ER (Rd m ρ) (Set.mem_univ (κ (c, none))) (fun h => h) (R := 0 + 1) (duties_later m ρ (barCell c))) $$ [Hat] with Hz
  · isplitr; · iapply (inv_at m ρ κ (c, none)); iexact HR
    iexact Hat
  iapply Hk
  isplitl [HO]; · iexists _; iexact HO
  isplitl [Hp0 Hp1 Hp2]
  · isplitl [Hp0]; · iexact Hp0
    isplitl [Hp1] <;> iassumption
  iexact Hz

end Cert.Tanh4

end
-- ==== Proof.Moves.lean ====
/-
# The steps of the body: rows loaded, sent, finished and stored
-/
module

public import proofs.«01_k».proof.Proof.Steps
public import Idealize.ShloMosaic.Lib.Pointwise.Index

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Every slot has the credit `N` -/

theorem credS (h : Fin 2) (o : Fin 3) : (slot stB h o).view.dmaCredit = N := rfl
theorem credR (h : Fin 2) (o : Fin 3) : (slot rsB h o).view.dmaCredit = N := rfl
theorem credG (h : Fin 2) (o : Fin 3) : (slot agB h o).view.dmaCredit = N := rfl
theorem credA (h : Fin 2) : (asS h).view.dmaCredit = N := rfl

/-! ## Offsets -/

theorem off1_rows (c : Dev nD) (h : Fin 2) (o : Fin 3) :
    k0_off1 c (BitVec.ofNat 32 (1 + o.val)) (BitVec.ofNat 32 (128 * h.val)) = ![256 * (pe c o).val + 128 * h.val, 0] := k0_off1_eq c o h
theorem off2_rows (c : Dev nD) (h : Fin 2) : k0_off2 c (BitVec.ofNat 32 (128 * h.val)) = ![256 * c.val + 128 * h.val, 0] := k0_off2_eq c h
theorem off3_rows (c : Dev nD) (h : Fin 2) (o : Fin 3) :
    k0_off3 c (BitVec.ofNat 32 (1 + o.val)) (BitVec.ofNat 32 (128 * h.val)) = ![256 * (og c o).val + 128 * h.val, 0] := k0_off3_eq c o h

/-! ## The operand's rows -/

/-- The operand in its staging buffer. -/
abbrev xOwn (c : Dev nD) : sProp 𝕄 := owns (c : Thread nD τ) xM fullShare (xstg m ρ c)

theorem wp_load_x (c p : Dev nD) (h : Fin 2) {off : Fin 2 → ℕ} (hoff : off = ![256 * p.val + 128 * h.val, 0])
    {inb : ∀ a, off a + S128x512.size a ≤ S1024x512.size a} {hl : xM.view.LoadsAt (Rect.unit (s := S1024x512) off S128x512.size inb).toLoadRect}
    {α : Type} {Q : α → sProp 𝕄} {f : Vec F S128x512 .bf16 → PG (F := F) α} :
    xOwn m ρ c ⊢ iprop((xOwn m ρ c -∗ wpc c (f (xr m ρ c p h)) Q)
      -∗ wpc c (.op (.load xM (Rect.unit (s := S1024x512) off S128x512.size inb).toLoadRect hl) f) Q) := by
  subst hoff
  rw [xOwn, owns_whole]
  iintro H Hk
  iapply (wp_load 𝒱₀ (c : Thread nD τ) none Set.univ (m := xM) (Finset.subset_univ _)) $$ H
  iintro H
  iapply Hk
  iexact H

/-! ## The result's rows -/

/-- What device `c` stores in the rows of half `h` of block `p`: its own rows as computed, the others' as received. -/
def val (c p : Dev nD) (h : Fin 2) : FVec F S128x512 .f32 := if p = c then fin m ρ c h else extf .f32 (snt m ρ p h) bitsLt_bf16_f32

/-- The result buffer, stored in the blocks of a list. -/
def outP (c : Dev nD) (l : List (Dev nD × Fin 2)) : sProp 𝕄 :=
  iprop(∃ f : S1024x512.Idx → F .f32, ⌜∀ x ∈ l, rows f x.1 x.2 = val m ρ c x.1 x.2⌝ ∗ owns (c : Thread nD τ) oM fullShare f)

theorem row_lt (p : Fin 4) (h : Fin 2) (j : Fin 128) : 256 * p.val + 128 * h.val + j.val < 1024 := by have := p.isLt; have := h.isLt; have := j.isLt; omega

/-- The blocks are disjoint. -/
theorem rowR_inj {p p' : Fin 4} {h h' : Fin 2} {i i' : S128x512.Idx} (e : (rowR p h).emb i = (rowR p' h').emb i') : p = p' ∧ h = h' := by
  have e0 : 256 * p.val + 128 * h.val + 1 * (i 0).val = 256 * p'.val + 128 * h'.val + 1 * (i' 0).val := congrArg (fun j : S1024x512.Idx => (j 0).val) e
  have := p.isLt; have := h.isLt; have hi : (i 0).val < 128 := (i 0).isLt
  have := p'.isLt; have := h'.isLt; have hi' : (i' 0).val < 128 := (i' 0).isLt
  exact ⟨Fin.ext (by omega), Fin.ext (by omega)⟩

/-- Every row is in a block. -/
theorem rowR_cover (j : S1024x512.Idx) : ∃ (p : Fin 4) (h : Fin 2) (i : S128x512.Idx), j = (rowR p h).emb i := by
  have h0 : (j 0).val < 1024 := (j 0).isLt
  have h1 : (j 1).val < 512 := (j 1).isLt
  refine ⟨⟨(j 0).val / 256, by omega⟩, ⟨(j 0).val / 128 % 2, by omega⟩, ix2 (⟨(j 0).val % 128, by omega⟩ : Fin 128) (⟨(j 1).val, h1⟩ : Fin 512), ?_⟩
  funext a
  refine Fin.ext ?_
  show (j a).val = (rowR _ _).off a + 1 * (ix2 (⟨(j 0).val % 128, by omega⟩ : Fin 128) (⟨(j 1).val, h1⟩ : Fin 512) a).val
  fin_cases a
  · show (j 0).val = 256 * ((j 0).val / 256) + 128 * ((j 0).val / 128 % 2) + 1 * ((j 0).val % 128)
    omega
  · show (j 1).val = 0 + 1 * (j 1).val
    omega

theorem og_ne : ∀ (c : Dev nD) (o : Fin 3), og c o ≠ c := by decide

theorem rows_write_same (g : S1024x512.Idx → F .f32) (w : S128x512.Idx → F .f32) (p : Fin 4) (h : Fin 2) :
    rows ((oM.access (rowR p h)).write (Elt F) g w Finset.univ) p h = w := by
  funext i
  have e := View.write_emb_of_mem (Val := Elt F) (v := oM.access (rowR p h)) (e := .f32) g w (M := Finset.univ) (x := i) (Finset.mem_univ i)
  generalize (oM.access (rowR p h)).write (Elt F) g w Finset.univ = W at e ⊢
  exact e

theorem rows_write_other (g : S1024x512.Idx → F .f32) (w : S128x512.Idx → F .f32) {p p' : Fin 4} {h h' : Fin 2} (e : (p', h') ≠ (p, h)) :
    rows ((oM.access (rowR p h)).write (Elt F) g w Finset.univ) p' h' = rows g p' h' := by
  funext i
  refine View.write_of_not_mem (Val := Elt F) (v := oM.access (rowR p h)) g w _ fun hm => ?_
  obtain ⟨i', -, e'⟩ := Finset.mem_map.mp hm
  obtain ⟨e1, e2⟩ := rowR_inj e'
  exact e (Prod.ext e1.symm e2.symm)

theorem wp_store_out (c p : Dev nD) (h : Fin 2) (l : List (Dev nD × Fin 2)) {off : Fin 2 → ℕ} (hoff : off = ![256 * p.val + 128 * h.val, 0])
    {inb : ∀ a, off a + S128x512.size a ≤ S1024x512.size a} {w : FVec F S128x512 .f32} (hw : w = val m ρ c p h)
    {hx : (oM.access (Rect.unit (s := S1024x512) off S128x512.size inb)).Stores Finset.univ}
    {hm : (Finset.univ : Finset (Rect.unit (s := S1024x512) off S128x512.size inb).shape.Idx) = Finset.univ ∨ ∀ a, (Rect.unit (s := S1024x512) off S128x512.size inb).stride a = 1}
    {α : Type} {Q : α → sProp 𝕄} {f : PUnit → PG (F := F) α} :
    outP m ρ c l ⊢ iprop((outP m ρ c ((p, h) :: l) -∗ wpc c (f ⟨⟩) Q)
      -∗ wpc c (.op (.store oM (Rect.unit (s := S1024x512) off S128x512.size inb) w Finset.univ hx hm) f) Q) := by
  subst hoff hw
  unfold outP
  iintro ⟨%g, %hg, H⟩ Hk
  ihave H := (Entails.of_eq (owns_whole (c : Thread nD τ) cc0_stg1_0 fullShare g)) $$ H
  iapply (wp_store 𝒱₀ (c : Thread nD τ) none Set.univ (m := oM) (r := rowR p h) (Mk := Finset.univ) (Finset.subset_univ _)) $$ H
  iintro H
  iapply Hk
  iexists ((oM.access (rowR p h)).write (Elt F) g (val m ρ c p h) Finset.univ)
  isplitr
  · ipureintro
    intro x hx
    by_cases e : x = (p, h)
    · subst e; exact rows_write_same g (val m ρ c p h) p h
    · exact (rows_write_other g (val m ρ c p h) (show (x.1, x.2) ≠ (p, h) from e)).trans (hg x ((List.mem_cons.mp hx).resolve_left e))
  · iapply (Entails.of_eq (owns_whole (c : Thread nD τ) cc0_stg1_0 fullShare _).symm); iexact H

theorem wp_load_out (c : Dev nD) (l : List (Dev nD × Fin 2)) {r : Rect S1024x512} {hl : oM.view.LoadsAt r.toLoadRect}
    {α : Type} {Q : α → sProp 𝕄} {f : (r.shape.Idx → Elt F .f32) → PG (F := F) α} :
    outP m ρ c l ⊢ iprop((∀ v, outP m ρ c l -∗ wpc c (f v) Q) -∗ wpc c (.op (.load oM r.toLoadRect hl) f) Q) := by
  unfold outP
  iintro ⟨%g, %hg, H⟩ Hk
  ihave H := (Entails.of_eq (owns_whole (c : Thread nD τ) cc0_stg1_0 fullShare g)) $$ H
  iapply (wp_load 𝒱₀ (c : Thread nD τ) none Set.univ (m := oM) (Finset.subset_univ _)) $$ H
  iintro H
  iapply Hk
  iexists g
  isplitr; · (ipureintro; exact hg)
  iapply (Entails.of_eq (owns_whole (c : Thread nD τ) cc0_stg1_0 fullShare _).symm); iexact H

/-! ## A copy to a peer -/

set_option maxHeartbeats 400000 in
/-- The copy of a slot owned at any share to a slot of the peer, paying the two cells the copy signals. -/
theorem wp_copy (κ : CI → ℕ) (c n p : Dev nD) (hn : n = p) (k₁ k₂ : K) (src dst : Memref sig .tc .vmem S128x512 .bf16)
    {hsc : (dst : Memref sig (Dev.tc n : Thread nD τ).2.kind .vmem S128x512 .bf16).view.ref.isScScratch = false}
    {h₁ : src.view.WordExact} {h₂ : dst.view.WordExact}
    {hsem : DmaTarget.Typed .vmem (.dma (dq k₂)) (.remote (Dev.tc n : Thread nD τ) dst (.dma (dq k₁)) hsc)}
    (hN : (dst : Memref sig (Dev.tc n : Thread nD τ).2.kind .vmem S128x512 .bf16).view.amount (.dma (dq k₂)) = N) (q : PosShare TreeShare) (X : Vec F S128x512 .bf16) (O : CellTallies nD τ sig Unit)
    (hp₁ : owns (c : Thread nD τ) src q X ⊢ pay m ρ c k₁) (hp₂ : owns (p : Thread nD τ) dst fullShare X ⊢ pay m ρ p k₂)
    {α : Type} {Q : α → sProp 𝕄} {f : PUnit → PG (F := F) α} :
    iprop(records m ρ κ ∗ ow c (O + tallyAt (dCell p k₂) () N) ∗ owns (c : Thread nD τ) src q X ∗ anyS p dst ∗ tok c k₁ ∗ tok p k₂)
      ⊢ iprop(((ow c O ∗ crd c k₁) -∗ wpc c (f ⟨⟩) Q)
          -∗ wpc c (.op (.enqueueDma src (.remote (Dev.tc n : Thread nD τ) dst (.dma (dq k₁)) hsc) (.dma (dq k₂)) h₁ h₂ hsem) f) Q) := by
  subst hn
  have e₁ (fs : src.view.ty.Contents (Elt F)) (hfs : src.view.read (Elt F) fs = X) :
      ((src.view.loc (c : Thread nD τ)) ↦[src.view.set]{q} fs : sProp 𝕄) ⊢ pay m ρ c k₁ := by
    subst hfs; exact (owns_intro (c : Thread nD τ) src q fs).trans hp₁
  have e₂ (fs : src.view.ty.Contents (Elt F)) (hfs : src.view.read (Elt F) fs = X) (fd : dst.view.ty.Contents (Elt F)) :
      ((dst.view.loc (n : Thread nD τ)) ↦[dst.view.set]{fullShare} (dst.view.write (Elt F) fd (src.view.read (Elt F) fs) Finset.univ) : sProp 𝕄) ⊢ pay m ρ n k₂ := by
    refine (owns_intro (n : Thread nD τ) dst fullShare _).trans ?_
    rw [View.read_write_univ, hfs]; exact hp₂
  unfold ow anyS owns
  iintro ⟨#HR, ⟨%W, HO⟩, ⟨%fs, %hfs, Hs⟩, ⟨%Y, %fd, %hfd, Hd⟩, Ht1, Ht2⟩ Hk
  iapply (Rounds.wp_send_pointsTo 𝒱₀ ER (Rd m ρ) (c : Thread nD τ) none (κ₁ := κ (c, some k₁)) (κ₂ := κ (n, some k₂)) (c' := (n : Thread nD τ))
    (r₁ := 0) (r₂ := 0) (d₁ := (0 : Fin 3)) (d₂ := (0 : Fin 3)) (fs := fs) (fd := fd) (q := q)
    (by rw [duties_dma]; exact Finset.mem_singleton_self _) (by rw [duties_dma]; exact Finset.mem_singleton_self _)
    () () N hN (amount_dma m ρ c k₁ 0) (amount_dma m ρ n k₂ 0) O rfl (W := W)
    (by rw [payload_dma]; exact e₁ fs hfs) (by rw [payload_dma]; exact e₂ fs hfs fd)) $$ [HO Hs Hd Ht1 Ht2]
  · isplitr; · iapply (inv_at m ρ κ (c, some k₁)); iexact HR
    isplitr; · iapply (inv_at m ρ κ (n, some k₂)); iexact HR
    isplitl [Hs]; · iexact Hs
    isplitl [Hd]; · iexact Hd
    isplitl [HO]; · iexact HO
    isplitl [Ht1]; · iexact Ht1
    isplitr; · iapply (reached_at m ρ κ (c, some k₁)); iexact HR
    isplitl [Ht2]; · iexact Ht2
    iapply (reached_at m ρ κ (n, some k₂)); iexact HR
  iintro ⟨Hc, HO⟩
  iapply Hk
  isplitl [HO]; · iexists W; iexact HO
  iexact Hc

set_option maxHeartbeats 400000 in
/-- Rows staged and sent. -/
theorem wp_put (κ : CI → ℕ) (c n : Dev nD) (h : Fin 2) (o : Fin 3) (hn : n = pe c o) (l : List Due)
    {α : Type} {Q : α → sProp 𝕄} {f : PUnit → PG (F := F) α} :
    iprop(records m ρ κ ∗ ow c (owe c (d1 h o :: l)) ∗ xOwn m ρ c ∗ anyS c (slot stB h o) ∗ anyS (pe c o) (slot rsB h o)
        ∗ tok c (0, h, o) ∗ tok (pe c o) (1, h, o))
      ⊢ iprop(((ow c (owe c l) ∗ xOwn m ρ c ∗ crd c (0, h, o)) -∗ wpc c (f ⟨⟩) Q) -∗ wpc c (put c n h o >>= f) Q) := by
  iintro ⟨#HR, HO, Hx, Hs, Hd, Ht1, Ht2⟩ Hk
  unfold put
  simp only [Prog.lift, Prog.bind_op, Prog.bind_ret]
  iapply (wp_load_x m ρ c (pe c o) h (off1_rows c h o)) $$ Hx
  iintro Hx
  unfold anyS
  icases Hs with ⟨%Y, Hs⟩
  iapply (wp_load_slot 𝒱₀ c stB (r4 h o) (fun _ => rfl) squeezes_S1x1x128x512_S128x512 shapeCasts_S128x512_S1x1x128x512) $$ Hs
  iintro Hs
  iapply (wp_store_slot 𝒱₀ c stB (r4 h o) (fun _ => rfl) squeezes_S1x1x128x512_S128x512 shapeCasts_S1x1x128x512_S128x512) $$ Hs
  rw [show shapeCast S128x512 (k0_pay1 (xr m ρ c (pe c o) h)) shapeCasts_S1x1x128x512_S128x512 = xr m ρ c (pe c o) h from by
    unfold k0_pay1; rw [shapeCast_shapeCast, shapeCast_self]]
  iintro Hs
  iapply (wp_copy m ρ κ c n (pe c o) hn (0, h, o) (1, h, o) (slot stB h o) (slot rsB h o) (credR h o) fullShare (xr m ρ c (pe c o) h) (owe c l)
    (by
      show _ ⊢ anyS c (slot stB h o)
      unfold anyS; iintro H; iexists _; iexact H)
    (by
      show _ ⊢ owns (Val := Elt F) ((pe c o : Dev nD) : Thread nD τ) (slot rsB h o) fullShare (xr m ρ (og (pe c o) o) (pe c o) h)
      rw [og_pe])) $$ [HO Hs Hd Ht1 Ht2]
  · isplitr; · iexact HR
    isplitl [HO]; · iexact HO
    isplitl [Hs]; · iexact Hs
    isplitl [Hd]; · unfold anyS; iexact Hd
    isplitl [Ht1] <;> iassumption
  iintro ⟨HO, Hc⟩
  iapply Hk
  isplitl [HO]; · iexact HO
  isplitl [Hx] <;> iassumption

set_option maxHeartbeats 400000 in
/-- One copy of the finished rows. -/
theorem wp_push (κ : CI → ℕ) (c n : Dev nD) (h : Fin 2) (o : Fin 3) (hn : n = pe c o) (l : List Due)
    {α : Type} {Q : α → sProp 𝕄} {f : PUnit → PG (F := F) α} :
    iprop(records m ρ κ ∗ ow c (owe c (d3 h o :: l)) ∗ owns (c : Thread nD τ) (asS h) (shr o) (snt m ρ c h) ∗ anyS (pe c o) (slot agB h o)
        ∗ tok c (2, h, o) ∗ tok (pe c o) (3, h, o))
      ⊢ iprop(((ow c (owe c l) ∗ crd c (2, h, o)) -∗ wpc c (f ⟨⟩) Q) -∗ wpc c (push n h o >>= f) Q) := by
  iintro ⟨#HR, HO, Hs, Hd, Ht1, Ht2⟩ Hk
  unfold push
  simp only [Prog.lift, Prog.bind_op, Prog.bind_ret]
  iapply (wp_copy m ρ κ c n (pe c o) hn (2, h, o) (3, h, o) (asS h) (slot agB h o) (credG h o) (shr o) (snt m ρ c h) (owe c l)
    (by exact BI.Entails.refl _)
    (by
      show _ ⊢ owns (Val := Elt F) ((pe c o : Dev nD) : Thread nD τ) (slot agB h o) fullShare (snt m ρ (og (pe c o) o) h)
      rw [og_pe])) $$ [HO Hs Hd Ht1 Ht2]
  · isplitr; · iexact HR
    isplitl [HO]; · iexact HO
    isplitl [Hs]; · iexact Hs
    isplitl [Hd]; · iexact Hd
    isplitl [Ht1] <;> iassumption
  iintro H
  iapply Hk
  iexact H

set_option maxHeartbeats 400000 in
/-- Finished rows of a peer taken into the result. -/
theorem wp_take (κ : CI → ℕ) (c : Dev nD) (h : Fin 2) (o : Fin 3) (l : List (Dev nD × Fin 2))
    {α : Type} {Q : α → sProp 𝕄} {f : PUnit → PG (F := F) α} :
    iprop(records m ρ κ ∗ levAts L lv ∗ ow c (owe c []) ∗ crd c (3, h, o) ∗ pos c (3, h, o) ∗ outP m ρ c l)
      ⊢ iprop(((ow c (owe c []) ∗ anyS c (slot agB h o) ∗ zero c (3, h, o) ∗ outP m ρ c ((og c o, h) :: l)) -∗ wpc c (f ⟨⟩) Q) -∗ wpc c (take c h o >>= f) Q) := by
  iintro ⟨#HR, #Hlev, HO, Hc, Hat, Hout⟩ Hk
  unfold take
  simp only [Prog.bind_assoc]
  iapply (wp_wt m ρ κ c (3, h, o) [] (fun _ he => absurd he (List.not_mem_nil)) rfl (src := asS h) (dst := slot agB h o) (credG h o)) $$ [HO Hc Hat]
  · isplitr; · iexact HR
    isplitr; · iexact Hlev
    isplitl [HO]; · iexact HO
    isplitl [Hc] <;> iassumption
  iintro ⟨HO, Hp, Hz⟩
  simp only [Prog.lift, Prog.bind_op, Prog.bind_ret]
  unfold pay
  iapply (wp_load_slot 𝒱₀ c agB (r4 h o) (fun _ => rfl) squeezes_S1x1x128x512_S128x512 shapeCasts_S128x512_S1x1x128x512) $$ Hp
  iintro Hp
  iapply (wp_load_out m ρ c l) $$ Hout
  iintro %v Hout
  iapply (wp_store_out m ρ c (og c o) h l (off3_rows c h o) (by
    rw [val, if_neg (og_ne c o)]
    show extf .f32 (shapeCast S128x512 (shapeCast S1x1x128x512 (snt m ρ (og c o) h) shapeCasts_S128x512_S1x1x128x512) shapeCasts_S1x1x128x512_S128x512) bitsLt_bf16_f32 = _
    rw [shapeCast_shapeCast])) $$ Hout
  iintro Hout
  iapply Hk
  isplitl [HO]; · iexact HO
  isplitl [Hp]; · unfold anyS; iexists _; iexact Hp
  isplitl [Hz] <;> iassumption

end Cert.Tanh4

end
-- ==== Proof.Finish.lean ====
/-
# The steps of the body: one half finished
-/
module

public import proofs.«01_k».proof.Proof.Moves
public import Idealize.ShloMosaic.Lib.StableHlo.CollectiveRules

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A stage of finished rows in the three shares its copies read. -/
theorem asS_shares (c : Dev nD) (h : Fin 2) (X : Vec F S128x512 .bf16) :
    (owns (c : Thread nD τ) (asS h) fullShare X : sProp 𝕄)
      ⊣⊢ iprop(owns (c : Thread nD τ) (asS h) (shr 0) X ∗ owns (c : Thread nD τ) (asS h) (shr 1) X ∗ owns (c : Thread nD τ) (asS h) (shr 2) X) :=
  have e1 := owns_share (Ix := Unit) (Name := ℕ) (U := UU) (Lvl := ℕ) (c : Thread nD τ) (asS h) (PosShare.mem_left_op_right fullShare) X
  have e2 := owns_share (Ix := Unit) (Name := ℕ) (U := UU) (Lvl := ℕ) (c : Thread nD τ) (asS h) (PosShare.mem_left_op_right fullShare.right) X
  ⟨e1.1.trans (sep_mono_right e2.1), (sep_mono_right e2.2).trans e1.2⟩

/-- What a half needs at distance `o`: the arrival's credit and position, the peer's landing slot, the tokens of the copy. -/
def ins (c : Dev nD) (h : Fin 2) (o : Fin 3) : sProp 𝕄 :=
  iprop(crd c (1, h, o) ∗ pos c (1, h, o) ∗ anyS (pe c o) (slot agB h o) ∗ tok c (2, h, o) ∗ tok (pe c o) (3, h, o))
/-- What it leaves: the slot read, the arrival's counter at zero, the departure's credit. -/
def outs (c : Dev nD) (h : Fin 2) (o : Fin 3) : sProp 𝕄 :=
  iprop(anyS c (slot rsB h o) ∗ zero c (1, h, o) ∗ crd c (2, h, o))

/-- The function as printed is the function of the rows as held. -/
theorem fnp_eq (x0 x1 x2 x3 : Vec F S128x512 .bf16) :
    fnp x0 (shapeCast S1x1x128x512 x1 shapeCasts_S128x512_S1x1x128x512) (shapeCast S1x1x128x512 x2 shapeCasts_S128x512_S1x1x128x512)
      (shapeCast S1x1x128x512 x3 shapeCasts_S128x512_S1x1x128x512) = fn x0 x1 x2 x3 := by
  unfold fnp k0_pay13 k0_pay12
  dsimp only
  rw [shapeCast_self x0, shapeCast_shapeCast x1, shapeCast_shapeCast x2, shapeCast_shapeCast x3]
  rfl

set_option maxHeartbeats 1000000 in
theorem wp_finish (κ : CI → ℕ) (c n0 n1 n2 : Dev nD) (h : Fin 2) (h0 : n0 = pe c 0) (h1 : n1 = pe c 1) (h2 : n2 = pe c 2)
    (lo : List (Dev nD × Fin 2)) (ll : List Due)
    (hl : ∀ o : Fin 3, ∀ e ∈ d3 h 0 :: d3 h 1 :: d3 h 2 :: ll, lvS (osem (1, h, o)) < lvS e.2.1)
    {α : Type} {Q : α → sProp 𝕄} {f : PUnit → PG (F := F) α} :
    iprop(records m ρ κ ∗ levAts L lv ∗ ow c (owe c (d3 h 0 :: d3 h 1 :: d3 h 2 :: ll)) ∗ xOwn m ρ c ∗ outP m ρ c lo ∗ anyS c (asS h)
        ∗ ins c h 0 ∗ ins c h 1 ∗ ins c h 2)
      ⊢ iprop(((ow c (owe c ll) ∗ xOwn m ρ c ∗ outP m ρ c ((c, h) :: lo) ∗ outs c h 0 ∗ outs c h 1 ∗ outs c h 2) -∗ wpc c (f ⟨⟩) Q)
          -∗ wpc c (finish c n0 n1 n2 h >>= f) Q) := by
  unfold ins
  iintro ⟨#HR, #Hlev, HO, Hx, Hout, Has, ⟨Hc0, Ha0, Hd0, Hs0, Ht0⟩, ⟨Hc1, Ha1, Hd1, Hs1, Ht1⟩, ⟨Hc2, Ha2, Hd2, Hs2, Ht2⟩⟩ Hk
  unfold finish
  simp only [Prog.bind_assoc]
  iapply (wp_wt m ρ κ c (1, h, 0) _ (hl 0) rfl (src := slot stB h 0) (dst := slot rsB h 0) (credR h 0)) $$ [HO Hc0 Ha0]
  · isplitr; · iexact HR
    isplitr; · iexact Hlev
    isplitl [HO]; · iexact HO
    isplitl [Hc0] <;> iassumption
  iintro ⟨HO, Hp0, Hz0⟩
  iapply (wp_wt m ρ κ c (1, h, 1) _ (hl 1) rfl (src := slot stB h 1) (dst := slot rsB h 1) (credR h 1)) $$ [HO Hc1 Ha1]
  · isplitr; · iexact HR
    isplitr; · iexact Hlev
    isplitl [HO]; · iexact HO
    isplitl [Hc1] <;> iassumption
  iintro ⟨HO, Hp1, Hz1⟩
  iapply (wp_wt m ρ κ c (1, h, 2) _ (hl 2) rfl (src := slot stB h 2) (dst := slot rsB h 2) (credR h 2)) $$ [HO Hc2 Ha2]
  · isplitr; · iexact HR
    isplitr; · iexact Hlev
    isplitl [HO]; · iexact HO
    isplitl [Hc2] <;> iassumption
  iintro ⟨HO, Hp2, Hz2⟩
  simp only [Prog.lift, Prog.bind_op, Prog.bind_ret]
  iapply (wp_load_x m ρ c c h (off2_rows c h)) $$ Hx
  iintro Hx
  unfold pay
  iapply (wp_load_slot 𝒱₀ c rsB (r4 h 0) (fun _ => rfl) squeezes_S1x1x128x512_S128x512 shapeCasts_S128x512_S1x1x128x512) $$ Hp0
  iintro Hp0
  iapply (wp_load_slot 𝒱₀ c rsB (r4 h 1) (fun _ => rfl) squeezes_S1x1x128x512_S128x512 shapeCasts_S128x512_S1x1x128x512) $$ Hp1
  iintro Hp1
  iapply (wp_load_slot 𝒱₀ c rsB (r4 h 2) (fun _ => rfl) squeezes_S1x1x128x512_S128x512 shapeCasts_S128x512_S1x1x128x512) $$ Hp2
  iintro Hp2
  unfold anyS
  icases Has with ⟨%Y, Has⟩
  iapply (wp_load_slot 𝒱₀ c asB (r3 h) (fun _ => rfl) squeezes_S1x128x512_S128x512 shapeCasts_S128x512_S1x128x512) $$ Has
  iintro Has
  iapply (wp_store_slot 𝒱₀ c asB (r3 h) (fun _ => rfl) squeezes_S1x128x512_S128x512 shapeCasts_S1x128x512_S128x512) $$ Has
  rw [show fnp (xr m ρ c c h) (shapeCast (r4 h 0).shape (xr m ρ (og c 0) c h) shapeCasts_S128x512_S1x1x128x512)
      (shapeCast (r4 h 1).shape (xr m ρ (og c 1) c h) shapeCasts_S128x512_S1x1x128x512)
      (shapeCast (r4 h 2).shape (xr m ρ (og c 2) c h) shapeCasts_S128x512_S1x1x128x512) = fin m ρ c h from fnp_eq _ _ _ _,
    show shapeCast S128x512 (shapeCast S1x128x512 (truncf .bf16 (fin m ρ c h) bitsLt_bf16_f32) shapeCasts_S128x512_S1x128x512) shapeCasts_S1x128x512_S128x512 = snt m ρ c h from by
      rw [shapeCast_shapeCast]; rfl]
  iintro Has
  ihave Has := (asS_shares c h (snt m ρ c h)).1 $$ Has
  icases Has with ⟨Has0, Has1, Has2⟩
  iapply (wp_push m ρ κ c n0 h 0 h0 (d3 h 1 :: d3 h 2 :: ll)) $$ [HO Has0 Hd0 Hs0 Ht0]
  · isplitr; · iexact HR
    isplitl [HO]; · iexact HO
    isplitl [Has0]; · iexact Has0
    isplitl [Hd0]; · unfold anyS; iexact Hd0
    isplitl [Hs0] <;> iassumption
  iintro ⟨HO, Hq0⟩
  iapply (wp_push m ρ κ c n1 h 1 h1 (d3 h 2 :: ll)) $$ [HO Has1 Hd1 Hs1 Ht1]
  · isplitr; · iexact HR
    isplitl [HO]; · iexact HO
    isplitl [Has1]; · iexact Has1
    isplitl [Hd1]; · unfold anyS; iexact Hd1
    isplitl [Hs1] <;> iassumption
  iintro ⟨HO, Hq1⟩
  iapply (wp_push m ρ κ c n2 h 2 h2 ll) $$ [HO Has2 Hd2 Hs2 Ht2]
  · isplitr; · iexact HR
    isplitl [HO]; · iexact HO
    isplitl [Has2]; · iexact Has2
    isplitl [Hd2]; · unfold anyS; iexact Hd2
    isplitl [Hs2] <;> iassumption
  iintro ⟨HO, Hq2⟩
  iapply (wp_load_out m ρ c lo) $$ Hout
  iintro %v Hout
  iapply (wp_store_out m ρ c c h lo (off2_rows c h) (by rw [val, if_pos rfl])) $$ Hout
  iintro Hout
  iapply Hk
  isplitl [HO]; · iexact HO
  isplitl [Hx]; · iexact Hx
  isplitl [Hout]; · iexact Hout
  unfold outs anyS
  isplitl [Hp0 Hz0 Hq0]
  · isplitl [Hp0]; · iexists _; iexact Hp0
    isplitl [Hz0] <;> iassumption
  isplitl [Hp1 Hz1 Hq1]
  · isplitl [Hp1]; · iexists _; iexact Hp1
    isplitl [Hz1] <;> iassumption
  isplitl [Hp2]; · iexists _; iexact Hp2
  isplitl [Hz2] <;> iassumption

end Cert.Tanh4

end
-- ==== Proof.Scratch.lean ====
/-
# The scratch buffers and their slots

A buffer of six slots at any contents is its six slots at any contents, and likewise the buffer of two. The six slots of a
buffer are conjoined over the pairs of a half and a distance.
-/
module

public import proofs.«01_k».proof.Proof.Finish
public import Idealize.ShloMosaic.Lib.MemrefSat

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Six of a kind -/

/-- A resource for each half and distance. -/
def six (Φ : Fin 2 → Fin 3 → sProp 𝕄) : sProp 𝕄 := bigSep Finset.univ fun t : Fin 2 × Fin 3 => Φ t.1 t.2

omit [FloatOps F] in
theorem six_eq (Φ : Fin 2 → Fin 3 → sProp 𝕄) : six Φ = iprop(Φ 0 0 ∗ Φ 0 1 ∗ Φ 0 2 ∗ Φ 1 0 ∗ Φ 1 1 ∗ Φ 1 2) :=
  bigSep_univ_eq_bigSepL [(0, 0), (0, 1), (0, 2), (1, 0), (1, 1), (1, 2)] (by decide) (by decide) _

omit [FloatOps F] in
theorem six_sep (Φ Ψ : Fin 2 → Fin 3 → sProp 𝕄) : six (fun h o => iprop(Φ h o ∗ Ψ h o)) = iprop(six Φ ∗ six Ψ) := by
  unfold six; rw [bigSep_sep']

omit [FloatOps F] in
theorem six_mono {Φ Ψ : Fin 2 → Fin 3 → sProp 𝕄} (e : ∀ h o, Φ h o ⊢ Ψ h o) : six Φ ⊢ six Ψ := by
  unfold six; exact bigSep_mono fun t _ => e t.1 t.2

/-! ## The slots of a buffer are disjoint and cover it -/

theorem r4_disjoint (t t' : Fin 2 × Fin 3) (ne : t ≠ t') : Disjoint (r4 t.1 t.2).set (r4 t'.1 t'.2).set := by
  rw [Finset.disjoint_left]
  intro x hx hx'
  rw [← Rect.map_emb_univ] at hx hx'
  obtain ⟨j, -, hj⟩ := Finset.mem_map.mp hx
  obtain ⟨j', -, hj'⟩ := Finset.mem_map.mp hx'
  have e := hj.trans hj'.symm
  have e0 : t.1.val + 1 * (j 0).val = t'.1.val + 1 * (j' 0).val := congrArg (fun y : S2x3x128x512.Idx => (y 0).val) e
  have e1 : t.2.val + 1 * (j 1).val = t'.2.val + 1 * (j' 1).val := congrArg (fun y : S2x3x128x512.Idx => (y 1).val) e
  have b0 : (j 0).val < 1 := (j 0).isLt
  have b0' : (j' 0).val < 1 := (j' 0).isLt
  have b1 : (j 1).val < 1 := (j 1).isLt
  have b1' : (j' 1).val < 1 := (j' 1).isLt
  exact ne (Prod.ext (Fin.ext (by omega)) (Fin.ext (by omega)))

theorem r3_disjoint (h h' : Fin 2) (ne : h ≠ h') : Disjoint (r3 h).set (r3 h').set := by
  rw [Finset.disjoint_left]
  intro x hx hx'
  rw [← Rect.map_emb_univ] at hx hx'
  obtain ⟨j, -, hj⟩ := Finset.mem_map.mp hx
  obtain ⟨j', -, hj'⟩ := Finset.mem_map.mp hx'
  have e := hj.trans hj'.symm
  have e0 : h.val + 1 * (j 0).val = h'.val + 1 * (j' 0).val := congrArg (fun y : S2x128x512.Idx => (y 0).val) e
  have b0 : (j 0).val < 1 := (j 0).isLt
  have b0' : (j' 0).val < 1 := (j' 0).isLt
  exact ne (Fin.ext (by omega))

theorem r4_cover : (Finset.univ : Finset (Fin 2 × Fin 3)).biUnion (fun t => (r4 t.1 t.2).set) = Finset.univ := by
  refine Finset.eq_univ_iff_forall.mpr fun x => Finset.mem_biUnion.mpr ⟨(⟨(x 0).val, (x 0).isLt⟩, ⟨(x 1).val, (x 1).isLt⟩), Finset.mem_univ _, ?_⟩
  rw [← Rect.map_emb_univ]
  refine Finset.mem_map.mpr ⟨ix4 (0 : Fin 1) (0 : Fin 1) (⟨(x 2).val, (x 2).isLt⟩ : Fin 128) (⟨(x 3).val, (x 3).isLt⟩ : Fin 512), Finset.mem_univ _, ?_⟩
  funext a
  refine Fin.ext ?_
  fin_cases a
  · show (x 0).val + 1 * 0 = (x 0).val; omega
  · show (x 1).val + 1 * 0 = (x 1).val; omega
  · show 0 + 1 * (x 2).val = (x 2).val; omega
  · show 0 + 1 * (x 3).val = (x 3).val; omega

theorem r3_cover : (Finset.univ : Finset (Fin 2)).biUnion (fun h => (r3 h).set) = Finset.univ := by
  refine Finset.eq_univ_iff_forall.mpr fun x => Finset.mem_biUnion.mpr ⟨⟨(x 0).val, (x 0).isLt⟩, Finset.mem_univ _, ?_⟩
  rw [← Rect.map_emb_univ]
  refine Finset.mem_map.mpr ⟨ix3 (0 : Fin 1) (⟨(x 1).val, (x 1).isLt⟩ : Fin 128) (⟨(x 2).val, (x 2).isLt⟩ : Fin 512), Finset.mem_univ _, ?_⟩
  funext a
  refine Fin.ext ?_
  fin_cases a
  · show (x 0).val + 1 * 0 = (x 0).val; omega
  · show 0 + 1 * (x 1).val = (x 1).val; omega
  · show 0 + 1 * (x 2).val = (x 2).val; omega

/-! ## A buffer and its slots -/

/-- A buffer at any contents. -/
abbrev anyB (c : Dev nD) (b : Ref sig .tc) : sProp 𝕄 :=
  iprop(∃ f : Buf (Elt F) ((c : Thread nD τ).loc b), ((c : Thread nD τ).loc b) ↦{fullShare} f)

/-- A squeezed slice at any contents is the slice at any contents. -/
theorem any_squeeze (c : Dev nD) {s s' : Shape} {e : EltTy} (M : Memref sig .tc .vmem s e) (r : Rect s) (hr : ∀ a, r.stride a = 1) (hq : r.shape.Squeezes s') :
    (iprop(∃ X, owns (c : Thread nD τ) ((M.slice r hr).squeeze s' hq) fullShare X) : sProp 𝕄)
      ⊣⊢ ownsSat (c : Thread nD τ) (M.slice r hr) fullShare fun _ => True := by
  constructor
  · unfold owns
    iintro ⟨%X, %f, -, H⟩
    iapply (ownsSat_intro (c : Thread nD τ) (M.slice r hr) fullShare (X := (M.slice r hr).view.read (Elt F) f) trivial)
    iapply (owns_intro (c : Thread nD τ) (M.slice r hr) fullShare)
    rw [set_sq]
    iexact H
  · refine (ownsSat_elim (c : Thread nD τ) (M.slice r hr) fullShare _).trans ?_
    unfold owns
    iintro ⟨%X, -, %f, -, H⟩
    iexists _
    iexists f
    isplitr; · ipureintro; rfl
    rw [set_sq]
    iexact H

/-- A whole buffer at any contents, as its memref's. -/
theorem any_whole (c : Dev nD) (b : Ref sig .tc) (Φ : (b.ty.shape.Idx → Elt F b.ty.elt) → Prop) (hΦ : ∀ X, Φ X) :
    (anyB c b : sProp 𝕄) ⊣⊢ ownsSat (c : Thread nD τ) (Memref.whole b) fullShare Φ := by
  constructor
  · iintro ⟨%f, H⟩
    iapply (ownsSat_intro (c : Thread nD τ) (Memref.whole b) fullShare (hΦ f))
    iapply (Entails.of_eq (owns_whole (c : Thread nD τ) b fullShare f).symm)
    iexact H
  · refine (ownsSat_elim (c : Thread nD τ) (Memref.whole b) fullShare _).trans ?_
    iintro ⟨%X, -, H⟩
    ihave H := (Entails.of_eq (owns_whole (c : Thread nD τ) b fullShare X)) $$ H
    iexists X
    iexact H

theorem six_slots (c : Dev nD) (M : Memref sig .tc .vmem S2x3x128x512 .bf16) :
    (six fun h o => anyS c (slot M h o) : sProp 𝕄) ⊣⊢ ownsSat (c : Thread nD τ) M fullShare fun _ => ∀ t : Fin 2 × Fin 3, True := by
  unfold six anyS
  refine ⟨(bigSep_mono fun t _ => (any_squeeze c M (r4 t.1 t.2) (fun _ => rfl) squeezes_S1x1x128x512_S128x512).1).trans ?_,
    .trans ?_ (bigSep_mono fun t _ => (any_squeeze c M (r4 t.1 t.2) (fun _ => rfl) squeezes_S1x1x128x512_S128x512).2)⟩
  · exact ownsSat_of_rects (c : Thread nD τ) M fullShare (fun t : Fin 2 × Fin 3 => r4 t.1 t.2) (fun _ _ => rfl) r4_disjoint r4_cover (fun _ _ => True)
  · exact ownsSat_rects (c : Thread nD τ) M fullShare (fun t : Fin 2 × Fin 3 => r4 t.1 t.2) (fun _ _ => rfl) r4_disjoint r4_cover (fun _ _ => True)

theorem two_slots (c : Dev nD) :
    (iprop(anyS c (asS 0) ∗ anyS c (asS 1)) : sProp 𝕄) ⊣⊢ anyB c cc0_scratch2 := by
  have e : (iprop(anyS c (asS 0) ∗ anyS c (asS 1)) : sProp 𝕄) = bigSep Finset.univ fun h : Fin 2 => anyS c (asS h) :=
    (bigSep_univ_eq_bigSepL [(0 : Fin 2), 1] (by decide) (by decide) (fun h : Fin 2 => (anyS c (asS h) : sProp 𝕄))).symm
  rw [e]
  unfold anyS
  refine ⟨(bigSep_mono fun h _ => (any_squeeze c asB (r3 h) (fun _ => rfl) squeezes_S1x128x512_S128x512).1).trans (.trans ?_ (any_whole c cc0_scratch2 (fun _ => ∀ t : Fin 2, True) (fun _ _ => trivial)).2),
    (any_whole c cc0_scratch2 (fun _ => ∀ t : Fin 2, True) (fun _ _ => trivial)).1.trans (.trans ?_ (bigSep_mono fun h _ => (any_squeeze c asB (r3 h) (fun _ => rfl) squeezes_S1x128x512_S128x512).2))⟩
  · exact ownsSat_of_rects (c : Thread nD τ) asB fullShare r3 (fun _ _ => rfl) r3_disjoint r3_cover (fun _ _ => True)
  · exact ownsSat_rects (c : Thread nD τ) asB fullShare r3 (fun _ _ => rfl) r3_disjoint r3_cover (fun _ _ => True)

/-- A device's scratch, by slots, -/
def scr (c : Dev nD) : sProp 𝕄 :=
  iprop((six fun h o => anyS c (slot stB h o)) ∗ (six fun h o => anyS c (slot rsB h o)) ∗ (anyS c (asS 0) ∗ anyS c (asS 1)) ∗ six fun h o => anyS c (slot agB h o))

/-- and by buffers. -/
theorem scr_eq (c : Dev nD) : (scr c : sProp 𝕄) ⊣⊢ iprop(anyB c cc0_scratch0 ∗ anyB c cc0_scratch1 ∗ anyB c cc0_scratch2 ∗ anyB c cc0_scratch3) := by
  have w (b : Ref sig .tc) := any_whole (F := F) c b (fun _ => ∀ t : Fin 2 × Fin 3, True) (fun _ _ => trivial)
  unfold scr
  constructor
  · iintro ⟨H0, H1, H2, H3⟩
    isplitl [H0]; · iapply ((six_slots c stB).1.trans (w cc0_scratch0).2); iexact H0
    isplitl [H1]; · iapply ((six_slots c rsB).1.trans (w cc0_scratch1).2); iexact H1
    isplitl [H2]; · iapply (two_slots c).1; iexact H2
    iapply ((six_slots c agB).1.trans (w cc0_scratch3).2); iexact H3
  · iintro ⟨H0, H1, H2, H3⟩
    isplitl [H0]; · iapply ((w cc0_scratch0).1.trans (six_slots c stB).2); iexact H0
    isplitl [H1]; · iapply ((w cc0_scratch1).1.trans (six_slots c rsB).2); iexact H1
    isplitl [H2]; · iapply (two_slots c).2; iexact H2
    iapply ((w cc0_scratch3).1.trans (six_slots c agB).2); iexact H3

/-! ## The landing slots, by distance and by buffer -/

theorem lands (q : Fin 3 → Dev nD) :
    (iprop(land (q 0) 0 ∗ land (q 1) 1 ∗ land (q 2) 2) : sProp 𝕄)
      ⊣⊢ iprop((six fun h o => anyS (q o) (slot rsB h o)) ∗ six fun h o => anyS (q o) (slot agB h o)) := by
  rw [six_eq, six_eq]
  unfold land
  constructor
  · iintro ⟨⟨⟨Ha0, Hb0⟩, Hc0, Hd0⟩, ⟨⟨Ha1, Hb1⟩, Hc1, Hd1⟩, ⟨Ha2, Hb2⟩, Hc2, Hd2⟩
    isplitl [Ha0 Hb0 Ha1 Hb1 Ha2 Hb2]
    · iframe
    · iframe
  · iintro ⟨⟨Ha0, Ha1, Ha2, Hb0, Hb1, Hb2⟩, Hc0, Hc1, Hc2, Hd0, Hd1, Hd2⟩
    isplitl [Ha0 Hb0 Hc0 Hd0]
    · iframe
    isplitl [Ha1 Hb1 Hc1 Hd1]
    · iframe
    · iframe

end Cert.Tanh4

end
-- ==== Proof.Phases.lean ====
/-
# The phases of the body

The steps taken over all halves and distances: the partial rows sent, both halves finished, the finished rows of the others
taken, and the departures waited for.
-/
module

public import proofs.«01_k».proof.Proof.Scratch

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Partial rows -/

/-- What sending partial rows needs: the own stage, the peer's landing slot, the tokens of the copy. -/
def puts (c : Dev nD) (h : Fin 2) (o : Fin 3) : sProp 𝕄 :=
  iprop(anyS c (slot stB h o) ∗ anyS (pe c o) (slot rsB h o) ∗ tok c (0, h, o) ∗ tok (pe c o) (1, h, o))

set_option maxHeartbeats 800000 in
theorem wp_puts (κ : CI → ℕ) (c n1 n2 n3 n4 n5 n6 : Dev nD) (e1 : n1 = pe c 1) (e2 : n2 = pe c 0) (e3 : n3 = pe c 2)
    (e4 : n4 = pe c 1) (e5 : n5 = pe c 0) (e6 : n6 = pe c 2)
    {α : Type} {Q : α → sProp 𝕄} {f : PUnit → PG (F := F) α} :
    iprop(records m ρ κ ∗ ow c (owe c dues1) ∗ xOwn m ρ c ∗ six (puts c))
      ⊢ iprop(((ow c (owe c dues2) ∗ xOwn m ρ c ∗ six fun h o => crd c (0, h, o)) -∗ wpc c (f ⟨⟩) Q)
          -∗ wpc c (put c n1 0 1 >>= fun _ => put c n2 0 0 >>= fun _ => put c n3 0 2 >>= fun _ => put c n4 1 1 >>= fun _ => put c n5 1 0 >>= fun _ =>
              put c n6 1 2 >>= f) Q) := by
  rw [six_eq, six_eq]
  unfold puts
  iintro ⟨#HR, HO, Hx, ⟨Hs00, Hd00, Ht00, Hu00⟩, ⟨Hs01, Hd01, Ht01, Hu01⟩, ⟨Hs02, Hd02, Ht02, Hu02⟩, ⟨Hs10, Hd10, Ht10, Hu10⟩, ⟨Hs11, Hd11, Ht11, Hu11⟩, ⟨Hs12, Hd12, Ht12, Hu12⟩⟩ Hk
  iapply (wp_put m ρ κ c n1 0 1 e1 (d1 0 0 :: d1 0 2 :: d1 1 1 :: d1 1 0 :: d1 1 2 :: dues2)) $$ [HO Hx Hs01 Hd01 Ht01 Hu01]
  · isplitr; · iexact HR
    iframe
  iintro ⟨HO, Hx, Hc01⟩
  iapply (wp_put m ρ κ c n2 0 0 e2 (d1 0 2 :: d1 1 1 :: d1 1 0 :: d1 1 2 :: dues2)) $$ [HO Hx Hs00 Hd00 Ht00 Hu00]
  · isplitr; · iexact HR
    iframe
  iintro ⟨HO, Hx, Hc00⟩
  iapply (wp_put m ρ κ c n3 0 2 e3 (d1 1 1 :: d1 1 0 :: d1 1 2 :: dues2)) $$ [HO Hx Hs02 Hd02 Ht02 Hu02]
  · isplitr; · iexact HR
    iframe
  iintro ⟨HO, Hx, Hc02⟩
  iapply (wp_put m ρ κ c n4 1 1 e4 (d1 1 0 :: d1 1 2 :: dues2)) $$ [HO Hx Hs11 Hd11 Ht11 Hu11]
  · isplitr; · iexact HR
    iframe
  iintro ⟨HO, Hx, Hc11⟩
  iapply (wp_put m ρ κ c n5 1 0 e5 (d1 1 2 :: dues2)) $$ [HO Hx Hs10 Hd10 Ht10 Hu10]
  · isplitr; · iexact HR
    iframe
  iintro ⟨HO, Hx, Hc10⟩
  iapply (wp_put m ρ κ c n6 1 2 e6 (dues2)) $$ [HO Hx Hs12 Hd12 Ht12 Hu12]
  · isplitr; · iexact HR
    iframe
  iintro ⟨HO, Hx, Hc12⟩
  iapply Hk
  iframe

/-! ## Both halves finished -/

theorem lt_dues2 (o : Fin 3) : ∀ e ∈ dues2, lvS (osem (1, 0, o)) < lvS e.2.1 := by revert o; decide
theorem lt_dues3 (o : Fin 3) : ∀ e ∈ dues3, lvS (osem (1, 1, o)) < lvS e.2.1 := by revert o; decide

set_option maxHeartbeats 800000 in
theorem wp_finishes (κ : CI → ℕ) (c n0 n1 n2 n3 n4 n5 : Dev nD) (e0 : n0 = pe c 0) (e1 : n1 = pe c 1) (e2 : n2 = pe c 2)
    (e3 : n3 = pe c 0) (e4 : n4 = pe c 1) (e5 : n5 = pe c 2) (l : List (Dev nD × Fin 2))
    {α : Type} {Q : α → sProp 𝕄} {f : PUnit → PG (F := F) α} :
    iprop(records m ρ κ ∗ levAts L lv ∗ ow c (owe c dues2) ∗ xOwn m ρ c ∗ outP m ρ c l ∗ (anyS c (asS 0) ∗ anyS c (asS 1)) ∗ six (ins c))
      ⊢ iprop(((ow c (owe c []) ∗ xOwn m ρ c ∗ outP m ρ c ((c, 1) :: (c, 0) :: l) ∗ six (outs c)) -∗ wpc c (f ⟨⟩) Q)
          -∗ wpc c (finish c n0 n1 n2 0 >>= fun _ => finish c n3 n4 n5 1 >>= f) Q) := by
  rw [six_eq, six_eq]
  iintro ⟨#HR, #Hlev, HO, Hx, Hout, ⟨Ha0, Ha1⟩, Hi00, Hi01, Hi02, Hi10, Hi11, Hi12⟩ Hk
  iapply (wp_finish m ρ κ c n0 n1 n2 0 e0 e1 e2 l dues3 lt_dues2) $$ [HO Hx Hout Ha0 Hi00 Hi01 Hi02]
  · isplitr; · iexact HR
    isplitr; · iexact Hlev
    iframe
  iintro ⟨HO, Hx, Hout, Hi00, Hi01, Hi02⟩
  iapply (wp_finish m ρ κ c n3 n4 n5 1 e3 e4 e5 ((c, 0) :: l) [] lt_dues3) $$ [HO Hx Hout Ha1 Hi10 Hi11 Hi12]
  · isplitr; · iexact HR
    isplitr; · iexact Hlev
    iframe
  iintro ⟨HO, Hx, Hout, Hi10, Hi11, Hi12⟩
  iapply Hk
  iframe

/-! ## The finished rows of the others -/

/-- The blocks of the others in the order they are taken, the last first. -/
abbrev taken (c : Dev nD) (l : List (Dev nD × Fin 2)) : List (Dev nD × Fin 2) :=
  (og c 2, 1) :: (og c 1, 1) :: (og c 0, 1) :: (og c 2, 0) :: (og c 1, 0) :: (og c 0, 0) :: l

set_option maxHeartbeats 800000 in
theorem wp_takes (κ : CI → ℕ) (c : Dev nD) (l : List (Dev nD × Fin 2))
    {α : Type} {Q : α → sProp 𝕄} {f : PUnit → PG (F := F) α} :
    iprop(records m ρ κ ∗ levAts L lv ∗ ow c (owe c []) ∗ outP m ρ c l ∗ six fun h o => iprop(crd c (3, h, o) ∗ pos c (3, h, o)))
      ⊢ iprop(((ow c (owe c []) ∗ outP m ρ c (taken c l) ∗ six fun h o => iprop(anyS c (slot agB h o) ∗ zero c (3, h, o))) -∗ wpc c (f ⟨⟩) Q)
          -∗ wpc c (take c 0 0 >>= fun _ => take c 0 1 >>= fun _ => take c 0 2 >>= fun _ => take c 1 0 >>= fun _ => take c 1 1 >>= fun _ =>
              take c 1 2 >>= f) Q) := by
  rw [six_eq, six_eq]
  iintro ⟨#HR, #Hlev, HO, Hout, ⟨Hc00, Ha00⟩, ⟨Hc01, Ha01⟩, ⟨Hc02, Ha02⟩, ⟨Hc10, Ha10⟩, ⟨Hc11, Ha11⟩, ⟨Hc12, Ha12⟩⟩ Hk
  iapply (wp_take m ρ κ c 0 0 _) $$ [HO Hout Hc00 Ha00]
  · isplitr; · iexact HR
    isplitr; · iexact Hlev
    iframe
  iintro ⟨HO, Hs00, Hz00, Hout⟩
  iapply (wp_take m ρ κ c 0 1 _) $$ [HO Hout Hc01 Ha01]
  · isplitr; · iexact HR
    isplitr; · iexact Hlev
    iframe
  iintro ⟨HO, Hs01, Hz01, Hout⟩
  iapply (wp_take m ρ κ c 0 2 _) $$ [HO Hout Hc02 Ha02]
  · isplitr; · iexact HR
    isplitr; · iexact Hlev
    iframe
  iintro ⟨HO, Hs02, Hz02, Hout⟩
  iapply (wp_take m ρ κ c 1 0 _) $$ [HO Hout Hc10 Ha10]
  · isplitr; · iexact HR
    isplitr; · iexact Hlev
    iframe
  iintro ⟨HO, Hs10, Hz10, Hout⟩
  iapply (wp_take m ρ κ c 1 1 _) $$ [HO Hout Hc11 Ha11]
  · isplitr; · iexact HR
    isplitr; · iexact Hlev
    iframe
  iintro ⟨HO, Hs11, Hz11, Hout⟩
  iapply (wp_take m ρ κ c 1 2 _) $$ [HO Hout Hc12 Ha12]
  · isplitr; · iexact HR
    isplitr; · iexact Hlev
    iframe
  iintro ⟨HO, Hs12, Hz12, Hout⟩
  iapply Hk
  iframe

/-! ## The departures -/

theorem none_due {sm : SemLoc sig} : ∀ e ∈ ([] : List Due), lvS sm < lvS e.2.1 := fun _ he => absurd he List.not_mem_nil

theorem wp_left0 (κ : CI → ℕ) (c : Dev nD) (h : Fin 2) (o : Fin 3) {α : Type} {Q : α → sProp 𝕄} {f : PUnit → PG (F := F) α} :
    iprop(records m ρ κ ∗ levAts L lv ∗ ow c (owe c []) ∗ crd c (0, h, o) ∗ pos c (0, h, o))
      ⊢ iprop(((ow c (owe c []) ∗ anyS c (slot stB h o) ∗ zero c (0, h, o)) -∗ wpc c (f ⟨⟩) Q) -∗ wpc c (left0 h o >>= f) Q) :=
  wp_wt m ρ κ c (0, h, o) [] none_due rfl (src := slot rsB h o) (dst := slot stB h o) (credS h o)

theorem wp_left2 (κ : CI → ℕ) (c : Dev nD) (h : Fin 2) (o : Fin 3) {α : Type} {Q : α → sProp 𝕄} {f : PUnit → PG (F := F) α} :
    iprop(records m ρ κ ∗ levAts L lv ∗ ow c (owe c []) ∗ crd c (2, h, o) ∗ pos c (2, h, o))
      ⊢ iprop(((ow c (owe c []) ∗ owns (c : Thread nD τ) (asS h) (shr o) (snt m ρ c h) ∗ zero c (2, h, o)) -∗ wpc c (f ⟨⟩) Q) -∗ wpc c (left2 h o >>= f) Q) :=
  wp_wt m ρ κ c (2, h, o) [] none_due rfl (src := slot agB h o) (dst := asS h) (credA h)

set_option maxHeartbeats 800000 in
theorem wp_lefts0 (κ : CI → ℕ) (c : Dev nD) {α : Type} {Q : α → sProp 𝕄} {f : PUnit → PG (F := F) α} :
    iprop(records m ρ κ ∗ levAts L lv ∗ ow c (owe c []) ∗ six fun h o => iprop(crd c (0, h, o) ∗ pos c (0, h, o)))
      ⊢ iprop(((ow c (owe c []) ∗ six fun h o => iprop(anyS c (slot stB h o) ∗ zero c (0, h, o))) -∗ wpc c (f ⟨⟩) Q)
          -∗ wpc c (left0 0 1 >>= fun _ => left0 0 0 >>= fun _ => left0 0 2 >>= fun _ => left0 1 1 >>= fun _ => left0 1 0 >>= fun _ => left0 1 2 >>= f) Q) := by
  rw [six_eq, six_eq]
  iintro ⟨#HR, #Hlev, HO, ⟨Hc00, Ha00⟩, ⟨Hc01, Ha01⟩, ⟨Hc02, Ha02⟩, ⟨Hc10, Ha10⟩, ⟨Hc11, Ha11⟩, ⟨Hc12, Ha12⟩⟩ Hk
  iapply (wp_left0 m ρ κ c 0 1) $$ [HO Hc01 Ha01]
  · isplitr; · iexact HR
    isplitr; · iexact Hlev
    iframe
  iintro ⟨HO, Hs01, Hz01⟩
  iapply (wp_left0 m ρ κ c 0 0) $$ [HO Hc00 Ha00]
  · isplitr; · iexact HR
    isplitr; · iexact Hlev
    iframe
  iintro ⟨HO, Hs00, Hz00⟩
  iapply (wp_left0 m ρ κ c 0 2) $$ [HO Hc02 Ha02]
  · isplitr; · iexact HR
    isplitr; · iexact Hlev
    iframe
  iintro ⟨HO, Hs02, Hz02⟩
  iapply (wp_left0 m ρ κ c 1 1) $$ [HO Hc11 Ha11]
  · isplitr; · iexact HR
    isplitr; · iexact Hlev
    iframe
  iintro ⟨HO, Hs11, Hz11⟩
  iapply (wp_left0 m ρ κ c 1 0) $$ [HO Hc10 Ha10]
  · isplitr; · iexact HR
    isplitr; · iexact Hlev
    iframe
  iintro ⟨HO, Hs10, Hz10⟩
  iapply (wp_left0 m ρ κ c 1 2) $$ [HO Hc12 Ha12]
  · isplitr; · iexact HR
    isplitr; · iexact Hlev
    iframe
  iintro ⟨HO, Hs12, Hz12⟩
  iapply Hk
  iframe

set_option maxHeartbeats 800000 in
theorem wp_lefts2 (κ : CI → ℕ) (c : Dev nD) {α : Type} {Q : α → sProp 𝕄} {f : PUnit → PG (F := F) α} :
    iprop(records m ρ κ ∗ levAts L lv ∗ ow c (owe c []) ∗ six fun h o => iprop(crd c (2, h, o) ∗ pos c (2, h, o)))
      ⊢ iprop(((ow c (owe c []) ∗ (anyS c (asS 0) ∗ anyS c (asS 1)) ∗ six fun h o => zero c (2, h, o)) -∗ wpc c (f ⟨⟩) Q)
          -∗ wpc c (left2 0 0 >>= fun _ => left2 0 1 >>= fun _ => left2 0 2 >>= fun _ => left2 1 0 >>= fun _ => left2 1 1 >>= fun _ => left2 1 2 >>= f) Q) := by
  rw [six_eq, six_eq]
  iintro ⟨#HR, #Hlev, HO, ⟨Hc00, Ha00⟩, ⟨Hc01, Ha01⟩, ⟨Hc02, Ha02⟩, ⟨Hc10, Ha10⟩, ⟨Hc11, Ha11⟩, ⟨Hc12, Ha12⟩⟩ Hk
  iapply (wp_left2 m ρ κ c 0 0) $$ [HO Hc00 Ha00]
  · isplitr; · iexact HR
    isplitr; · iexact Hlev
    iframe
  iintro ⟨HO, Hs00, Hz00⟩
  iapply (wp_left2 m ρ κ c 0 1) $$ [HO Hc01 Ha01]
  · isplitr; · iexact HR
    isplitr; · iexact Hlev
    iframe
  iintro ⟨HO, Hs01, Hz01⟩
  iapply (wp_left2 m ρ κ c 0 2) $$ [HO Hc02 Ha02]
  · isplitr; · iexact HR
    isplitr; · iexact Hlev
    iframe
  iintro ⟨HO, Hs02, Hz02⟩
  iapply (wp_left2 m ρ κ c 1 0) $$ [HO Hc10 Ha10]
  · isplitr; · iexact HR
    isplitr; · iexact Hlev
    iframe
  iintro ⟨HO, Hs10, Hz10⟩
  iapply (wp_left2 m ρ κ c 1 1) $$ [HO Hc11 Ha11]
  · isplitr; · iexact HR
    isplitr; · iexact Hlev
    iframe
  iintro ⟨HO, Hs11, Hz11⟩
  iapply (wp_left2 m ρ κ c 1 2) $$ [HO Hc12 Ha12]
  · isplitr; · iexact HR
    isplitr; · iexact Hlev
    iframe
  iintro ⟨HO, Hs12, Hz12⟩
  ihave H0 := (asS_shares c 0 (snt m ρ c 0)).2 $$ [Hs00 Hs01 Hs02]
  · iframe
  ihave H1 := (asS_shares c 1 (snt m ρ c 1)).2 $$ [Hs10 Hs11 Hs12]
  · iframe
  iapply Hk
  unfold anyS
  isplitl [HO]; · iexact HO
  isplitl [H0 H1]
  · isplitl [H0]
    · iexists _; iexact H0
    · iexists _; iexact H1
  iframe

end Cert.Tanh4

end
-- ==== Proof.Body.lean ====
/-
# The body

What a device starts its body from, what it leaves, and the body run from the one to the other, phase by phase.
-/
module

public import proofs.«01_k».proof.Proof.Phases

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- Device `c`'s result: in each block of 128 rows what the device holds for that block. -/
def outAt (c : Dev nD) : S1024x512.Idx → F .f32 := fun j =>
  val m ρ c ⟨(j 0).val / 256, by have h : (j 0).val < 1024 := (j 0).isLt; show _ < 4; omega⟩ ⟨(j 0).val / 128 % 2, by omega⟩
    (ix2 (⟨(j 0).val % 128, by omega⟩ : Fin 128) (⟨(j 1).val, (j 1).isLt⟩ : Fin 512))

theorem rows_outAt (c p : Dev nD) (h : Fin 2) : rows (outAt m ρ c) p h = val m ρ c p h := by
  funext i
  have hp : p.val < 4 := p.isLt
  have hh := h.isLt
  have hi : (i 0).val < 128 := (i 0).isLt
  have e0 : (((rowR p h).emb i) 0).val = 256 * p.val + 128 * h.val + 1 * (i 0).val := rfl
  have e1 : (((rowR p h).emb i) 1).val = 0 + 1 * (i 1).val := rfl
  show outAt m ρ c ((rowR p h).emb i) = val m ρ c p h i
  unfold outAt
  congr 1
  · exact Fin.ext (by show (((rowR p h).emb i) 0).val / 256 = p.val; rw [e0]; omega)
  · exact Fin.ext (by show (((rowR p h).emb i) 0).val / 128 % 2 = h.val; rw [e0]; omega)
  · funext a
    refine Fin.ext ?_
    fin_cases a
    · show (((rowR p h).emb i) 0).val % 128 = (i 0).val; rw [e0]; omega
    · show (((rowR p h).emb i) 1).val = (i 1).val; rw [e1]; omega

/-- An array is known by its blocks. -/
theorem eq_outAt (c : Dev nD) (f : S1024x512.Idx → F .f32) (hf : ∀ p h, rows f p h = val m ρ c p h) : f = outAt m ρ c := by
  funext j
  obtain ⟨p, h, i, rfl⟩ := rowR_cover j
  exact congrFun ((hf p h).trans (rows_outAt m ρ c p h).symm) i

/-- The blocks stored are all the blocks. -/
theorem all_taken : ∀ c p : Dev nD, ∀ h : Fin 2, (p, h) ∈ taken c [(c, 1), (c, 0)] := by decide

theorem outP_done (c : Dev nD) : outP m ρ c (taken c [(c, 1), (c, 0)]) ⊢ owns (c : Thread nD τ) oM fullShare (outAt m ρ c) := by
  unfold outP
  iintro ⟨%f, %hf, H⟩
  have e : f = outAt m ρ c := eq_outAt m ρ c f fun p h => hf (p, h) (all_taken c p h)
  subst e
  iexact H

/-! ## What a device starts from and leaves -/

/-- The tokens of the duties a device pays. -/
def payToks (c : Dev nD) : sProp 𝕄 :=
  iprop((dutyTok ER (barCell (pe c 0)) 0 (0 : Fin 3) ∗ dutyTok ER (barCell (pe c 1)) 0 (1 : Fin 3) ∗ dutyTok ER (barCell (pe c 2)) 0 (2 : Fin 3))
    ∗ (six fun h o => tok c (0, h, o)) ∗ (six fun h o => tok (pe c o) (1, h, o)) ∗ (six fun h o => tok c (2, h, o)) ∗ six fun h o => tok (pe c o) (3, h, o))
/-- A device's positions at its own cells. -/
def poss (c : Dev nD) : sProp 𝕄 :=
  iprop(atPos ER (barCell c) 0 ∅ 0
    ∗ (six fun h o => pos c (0, h, o)) ∗ (six fun h o => pos c (1, h, o)) ∗ (six fun h o => pos c (2, h, o)) ∗ six fun h o => pos c (3, h, o))
def linear (c : Dev nD) : sProp 𝕄 := iprop(poss c ∗ payToks c)
def ghost (κ : CI → ℕ) (c : Dev nD) : sProp 𝕄 := iprop(records m ρ κ ∗ linear c)

/-- The launch credit of a device's own cells. -/
def creds (c : Dev nD) : sProp 𝕄 := iprop(cred (tallyAt (barCell c) () 3) ∗ (six fun h o => crd c (1, h, o)) ∗ six fun h o => crd c (3, h, o))

def start (c : Dev nD) : sProp 𝕄 := iprop((∃ κ, ghost m ρ κ c) ∗ creds c ∗ levAts L lv)
def Φ₀ (c : Dev nD) : sProp 𝕄 := iprop(start m ρ c ∗ scr c)

/-- The counters of a device's own cells at zero. -/
def zeros (c : Dev nD) : sProp 𝕄 :=
  iprop((six fun h o => zero c (0, h, o)) ∗ (six fun h o => zero c (1, h, o)) ∗ (six fun h o => zero c (2, h, o)) ∗ six fun h o => zero c (3, h, o))
def Φ₁ (c : Dev nD) : sProp 𝕄 := iprop(scr c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owe c dues0
    | ⟨_ + 1, _⟩ => 0

abbrev oOwn (c : Dev nD) (X : S1024x512.Idx → F .f32) : sProp 𝕄 := owns (c : Thread nD τ) oM fullShare X

/-! ## The devices the program computes -/

theorem dev1 (c : Dev nD) : (⟨k0_dev1 c, k0_dev1_lt c⟩ : Dev nD) = pe c 0 := Fin.ext (k0_dev1_eq c)
theorem dev2 (c : Dev nD) : (⟨k0_dev2 c, k0_dev2_lt c⟩ : Dev nD) = pe c 1 := Fin.ext (k0_dev2_eq c)
theorem dev3 (c : Dev nD) : (⟨k0_dev3 c, k0_dev3_lt c⟩ : Dev nD) = pe c 2 := Fin.ext (k0_dev3_eq c)
theorem dev4 (c : Dev nD) : (⟨k0_dev4 c, k0_dev4_lt c⟩ : Dev nD) = pe c 1 := Fin.ext (k0_dev4_eq c)
theorem dev5 (c : Dev nD) : (⟨k0_dev5 c, k0_dev5_lt c⟩ : Dev nD) = pe c 0 := Fin.ext (k0_dev5_eq c)
theorem dev6 (c : Dev nD) : (⟨k0_dev6 c, k0_dev6_lt c⟩ : Dev nD) = pe c 2 := Fin.ext (k0_dev6_eq c)
theorem dev7 (c : Dev nD) : (⟨k0_dev7 c, k0_dev7_lt c⟩ : Dev nD) = pe c 1 := Fin.ext (k0_dev7_eq c)
theorem dev8 (c : Dev nD) : (⟨k0_dev8 c, k0_dev8_lt c⟩ : Dev nD) = pe c 0 := Fin.ext (k0_dev8_eq c)
theorem dev9 (c : Dev nD) : (⟨k0_dev9 c, k0_dev9_lt c⟩ : Dev nD) = pe c 2 := Fin.ext (k0_dev9_eq c)
theorem dev10 (c : Dev nD) : (⟨k0_dev10 c, k0_dev10_lt c⟩ : Dev nD) = pe c 0 := Fin.ext (k0_dev10_eq c)
theorem dev11 (c : Dev nD) : (⟨k0_dev11 c, k0_dev11_lt c⟩ : Dev nD) = pe c 1 := Fin.ext (k0_dev11_eq c)
theorem dev12 (c : Dev nD) : (⟨k0_dev12 c, k0_dev12_lt c⟩ : Dev nD) = pe c 2 := Fin.ext (k0_dev12_eq c)
theorem dev13 (c : Dev nD) : (⟨k0_dev13 c, k0_dev13_lt c⟩ : Dev nD) = pe c 0 := Fin.ext (k0_dev13_eq c)
theorem dev14 (c : Dev nD) : (⟨k0_dev14 c, k0_dev14_lt c⟩ : Dev nD) = pe c 1 := Fin.ext (k0_dev14_eq c)
theorem dev15 (c : Dev nD) : (⟨k0_dev15 c, k0_dev15_lt c⟩ : Dev nD) = pe c 2 := Fin.ext (k0_dev15_eq c)

/-! ## The body -/

section Run

variable (κ : CI → ℕ)

set_option maxHeartbeats 2000000 in
/-- The protocol's part of the run: the body without the pipeline's records of what is owed. -/
theorem run_prog (c : Dev nD) (X : S1024x512.Idx → F .f32) {Q : PUnit → sProp 𝕄} :
    iprop(ghost m ρ κ c ∗ creds c ∗ levAts L lv ∗ scr c ∗ ow c (owe c dues0) ∗ xOwn m ρ c ∗ oOwn c X)
      ⊢ iprop(((scr c ∗ zeros c ∗ semVal (barCell c) 0 ∗ ow c 0 ∗ xOwn m ρ c ∗ oOwn c (outAt m ρ c)) -∗ Q ⟨⟩) -∗ wpc c (prog c) Q) := by
  unfold ghost linear poss payToks creds scr
  iintro ⟨⟨#HR, ⟨HaB, Ha0, Ha1, Ha2, Ha3⟩, HtB, Ht0, Ht1, Ht2, Ht3⟩, ⟨HcB, Hc1, Hc3⟩, #Hlev, ⟨Hst, Hrs, Has, Hag⟩, HO, Hx, Hout⟩ Hk
  unfold prog
  ihave Hland := (lands fun _ => c).2 $$ [Hrs Hag]
  · iframe
  iapply (wp_hello m ρ κ c _ _ _ (dev1 c) (dev2 c) (dev3 c)) $$ [HO HtB Hland HcB HaB]
  · isplitr; · iexact HR
    isplitr; · iexact Hlev
    iframe
  iintro ⟨HO, Hland, HzB⟩
  ihave Hland := (lands fun o => pe c o).1 $$ Hland
  icases Hland with ⟨Hrs, Hag⟩
  ihave Hp := (show iprop((six fun h o => anyS c (slot stB h o)) ∗ (six fun h o => anyS (pe c o) (slot rsB h o)) ∗ (six fun h o => tok c (0, h, o))
      ∗ six fun h o => tok (pe c o) (1, h, o)) ⊢ (six (puts c) : sProp 𝕄) from Entails.of_eq (by unfold puts; rw [six_sep, six_sep, six_sep])) $$ [Hst Hrs Ht0 Ht1]
  · iframe
  iapply (wp_puts m ρ κ c _ _ _ _ _ _ (dev4 c) (dev5 c) (dev6 c)
    (dev7 c) (dev8 c) (dev9 c)) $$ [HO Hx Hp]
  · isplitr; · iexact HR
    iframe
  iintro ⟨HO, Hx, Hc0⟩
  ihave Hp := (show iprop((six fun h o => crd c (1, h, o)) ∗ (six fun h o => pos c (1, h, o)) ∗ (six fun h o => anyS (pe c o) (slot agB h o))
      ∗ (six fun h o => tok c (2, h, o)) ∗ six fun h o => tok (pe c o) (3, h, o)) ⊢ (six (ins c) : sProp 𝕄) from
        Entails.of_eq (by unfold ins; rw [six_sep, six_sep, six_sep, six_sep])) $$ [Hc1 Ha1 Hag Ht2 Ht3]
  · iframe
  iapply (wp_finishes m ρ κ c _ _ _ _ _ _ (dev10 c) (dev11 c) (dev12 c)
    (dev13 c) (dev14 c) (dev15 c) []) $$ [HO Hx Hout Has Hp]
  · isplitr; · iexact HR
    isplitr; · iexact Hlev
    isplitl [HO]; · iexact HO
    isplitl [Hx]; · iexact Hx
    isplitl [Hout]
    · unfold outP
      iexists X
      isplitr; · ipureintro; exact fun _ h => absurd h List.not_mem_nil
      iexact Hout
    iframe
  iintro ⟨HO, Hx, Hout, Hp⟩
  ihave Hp := (show (six (outs c) : sProp 𝕄) ⊢ iprop((six fun h o => anyS c (slot rsB h o)) ∗ (six fun h o => zero c (1, h, o)) ∗ six fun h o => crd c (2, h, o)) from
        Entails.of_eq (by unfold outs; rw [six_sep, six_sep])) $$ Hp
  icases Hp with ⟨Hrs, Hz1, Hc2⟩
  ihave Hp := (Entails.of_eq (six_sep (fun h o => (crd c (3, h, o) : sProp 𝕄)) (fun h o => pos c (3, h, o))).symm) $$ [Hc3 Ha3]
  · iframe
  iapply (wp_takes m ρ κ c _) $$ [HO Hout Hp]
  · isplitr; · iexact HR
    isplitr; · iexact Hlev
    iframe
  iintro ⟨HO, Hout, Hp⟩
  ihave Hp := (Entails.of_eq (six_sep (fun h o => (anyS c (slot agB h o) : sProp 𝕄)) (fun h o => zero c (3, h, o)))) $$ Hp
  icases Hp with ⟨Hag, Hz3⟩
  ihave Hp := (Entails.of_eq (six_sep (fun h o => (crd c (0, h, o) : sProp 𝕄)) (fun h o => pos c (0, h, o))).symm) $$ [Hc0 Ha0]
  · iframe
  iapply (wp_lefts0 m ρ κ c) $$ [HO Hp]
  · isplitr; · iexact HR
    isplitr; · iexact Hlev
    iframe
  iintro ⟨HO, Hp⟩
  ihave Hp := (Entails.of_eq (six_sep (fun h o => (anyS c (slot stB h o) : sProp 𝕄)) (fun h o => zero c (0, h, o)))) $$ Hp
  icases Hp with ⟨Hst, Hz0⟩
  ihave Hp := (Entails.of_eq (six_sep (fun h o => (crd c (2, h, o) : sProp 𝕄)) (fun h o => pos c (2, h, o))).symm) $$ [Hc2 Ha2]
  · iframe
  rw [← Prog.bind_pure (left2 (F := F) 1 2)]
  iapply (wp_lefts2 m ρ κ c) $$ [HO Hp]
  · isplitr; · iexact HR
    isplitr; · iexact Hlev
    iframe
  iintro ⟨HO, Has, Hz2⟩
  rw [Prog.pure_eq_ret, wpc, wp_ret]; imodintro
  iapply Hk
  ihave Hout := (outP_done m ρ c) $$ Hout
  unfold zeros
  isplitl [Hst Hrs Has Hag]
  · iframe
  isplitl [Hz0 Hz1 Hz2 Hz3]
  · iframe
  isplitl [HzB]; · iexact HzB
  isplitl [HO]; · iexact HO
  isplitl [Hx]; · iexact Hx
  iexact Hout

end Run

def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))

def bodyPost (c : Dev nD) : sProp 𝕄 :=
  iprop(Φ₁ c ∗ (dats m ρ 0 c).owesAt () t0_0.succ ∗ owns (c : Thread nD τ) xM fullShare (xstg m ρ c) ∗ owns (c : Thread nD τ) oM fullShare (outAt m ρ c))

set_option maxRecDepth 4000 in
theorem run_body (c : Dev nD) :
    bodyPre m ρ c ⊢ wpc c (cc0_body xM (Memref.isWhole_whole _) oM (Memref.isWhole_whole _) stB (Memref.isWhole_whole _) rsB (Memref.isWhole_whole _)
      asB (Memref.isWhole_whole _) agB (Memref.isWhole_whole _) cc0_scratch4 cc0_scratch5 cc0_scratch6 cc0_scratch7) fun _ => bodyPost m ρ c := by
  rw [cc0_body_eq_skeleton, body_eq]
  simp only [Prog.lift, Prog.bind_op, Prog.bind_ret, wp_deviceId]
  unfold bodyPre Φ₀ start Dat.owesAt Pipeline.owesWithin
  iintro ⟨⟨⟨⟨%κ, Hg⟩, Hc, #Hlev⟩, Hs⟩, ⟨%W, -, HO⟩, ⟨%d0, Hx⟩, ⟨%d1, Hout⟩⟩
  have hx : (dats m ρ 0 c).before (0 : Fin 2) t0_0 d0 = xstg m ρ c := by unfold Dat.before; rw [if_pos (fetch0_0 t0_0)]; rfl
  rw [hx]
  iapply (run_prog m ρ κ c ((dats m ρ 0 c).before (1 : Fin 2) t0_0 d1)) $$ [Hg Hc Hs HO Hx Hout]
  · isplitl [Hg]; · iexact Hg
    isplitl [Hc]; · iexact Hc
    isplitr; · iexact Hlev
    isplitl [Hs]; · iexact Hs
    isplitl [HO]; · unfold ow; iexists W; iexact HO
    isplitl [Hx]; · iexact Hx
    iexact Hout
  iintro ⟨Hs, Hz, HzB, HO, Hx, Hout⟩
  unfold bodyPost Φ₁ Dat.owesAt Pipeline.owesWithin ow
  icases HO with ⟨%W', HO⟩
  isplitl [Hs Hz HzB]
  · iframe
  isplitl [HO]
  · iexists W'
    isplitr; · ipureintro; exact fun _ _ => Or.inl trivial
    iexact HO
  isplitl [Hx]; · iexact Hx
  iexact Hout

set_option maxRecDepth 4000 in
theorem body_obligation (c : Dev nD) : BodyObligation (dats (F := F) m ρ 0 c) (defs₀ (F := F)) 𝒱₀ () Set.univ := fun t => by
  rw [fin_N0 t]
  have e : ∀ Φ : Fin cfg0.W → sProp 𝕄, bigSep Finset.univ Φ = iprop(Φ (0 : Fin 2) ∗ Φ (1 : Fin 2)) := fun Φ => bigSep_W0 Φ
  rw [e, e]
  exact run_body m ρ c

end Cert.Tanh4

end
-- ==== Proof.Launch.lean ====
/-
# The launch

What the launch mints for the protocol, how it is dealt to the devices, and the run of the whole program: on every device the
operand unchanged and the result the function's, all counters at zero.
-/
module

public import proofs.«01_k».proof.Proof.Body
public import Idealize.ShloMosaic.Lib.Pipeline.CollectiveSegs

@[expose] public section

noncomputable section

namespace Cert.Tanh4

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the cells of a device -/

omit [FloatOps F] in
/-- Over the names of the DMA cells: the four kinds, six of each. -/
theorem kinds (Φ : K → sProp 𝕄) : bigSep Finset.univ Φ
    = iprop((six fun h o => Φ (0, h, o)) ∗ (six fun h o => Φ (1, h, o)) ∗ (six fun h o => Φ (2, h, o)) ∗ six fun h o => Φ (3, h, o)) := by
  rw [bigSep_univ_prod, bigSep_univ_eq_bigSepL [(0 : Fin 4), 1, 2, 3] (by decide) (by decide)]
  rfl

omit [FloatOps F] in
/-- Over all cells: the barrier's and the DMA cells'. -/
theorem all_cells (Φ : Option K → sProp 𝕄) : bigSep Finset.univ Φ = iprop(Φ none ∗ bigSep Finset.univ fun k : K => Φ (some k)) := by
  have e : (Finset.univ : Finset (Option K)) = insert none ((Finset.univ : Finset K).map Function.Embedding.some) := by
    ext x; cases x <;> simp
  have hn : (none : Option K) ∉ (Finset.univ : Finset K).map Function.Embedding.some := by simp
  rw [e, show bigSep (insert none ((Finset.univ : Finset K).map Function.Embedding.some)) Φ = iprop(Φ none ∗ bigSep ((Finset.univ : Finset K).map Function.Embedding.some) Φ)
    from BI.bigSep_insert hn, bigSep_map]
  rfl

/-! ## What is minted -/

theorem gcell_injective : Function.Injective gcell := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some k' => exact absurd h2 (fun e => by cases e)
  | some k => cases k' with
    | none => exact absurd h2 (fun e => by cases e)
    | some k' =>
      have h3 : dq k = dq k' := SemLoc.dma.inj h2
      have h4 : k = k' := by rw [← kq_dq k, h3, kq_dq]
      rw [h4]

def theCells : Finset (GSem nD τ sig) := Finset.univ.map ⟨gcell, gcell_injective⟩

/-- A token for each cell and duty name. -/
def tokOf (p : CI × Fin 3) : GSem nD τ sig × ℕ × Fin 3 := (gcell p.1, 0, p.2)
theorem tokOf_injective : Function.Injective tokOf := by
  rintro ⟨p, d⟩ ⟨p', d'⟩ h
  have h1 : p = p' := gcell_injective (congrArg Prod.fst h)
  have h2 : d = d' := congrArg (fun x : GSem nD τ sig × ℕ × Fin 3 => x.2.2) h
  rw [h1, h2]
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

/-- The tokens of a device's own cells that are some payer's. -/
def toks (c : Dev nD) : sProp 𝕄 :=
  iprop((dutyTok ER (barCell c) 0 (0 : Fin 3) ∗ dutyTok ER (barCell c) 0 (1 : Fin 3) ∗ dutyTok ER (barCell c) 0 (2 : Fin 3)) ∗ bigSep Finset.univ fun k : K => tok c k)

omit [FloatOps F] in
theorem toks_intro (c : Dev nD) : (bigSep Finset.univ fun k : Option K => bigSep Finset.univ fun d : Fin 3 => dutyTok ER (gcell (c, k)) 0 d : sProp 𝕄) ⊢ toks c := by
  have e3 (Φ : Fin 3 → sProp 𝕄) : bigSep Finset.univ Φ = iprop(Φ 0 ∗ Φ 1 ∗ Φ 2) := bigSep_univ_eq_bigSepL [0, 1, 2] (by decide) (by decide) Φ
  have hk : (bigSep Finset.univ fun k : K => bigSep Finset.univ fun d : Fin 3 => dutyTok ER (gcell (c, some k)) 0 d : sProp 𝕄) ⊢ bigSep Finset.univ fun k : K => tok c k :=
    bigSep_mono fun k _ => bigSep_elim (Finset.mem_univ (0 : Fin 3))
  rw [all_cells, e3]
  unfold toks
  iintro ⟨HB, HK⟩
  isplitl [HB]; · iexact HB
  iapply hk
  iexact HK

/-- What a device is dealt at launch. -/
def G (c : Dev nD) : sProp 𝕄 :=
  iprop((bigSep Finset.univ fun k : Option K => roundState ER (Rd m ρ) (gcell (c, k)) 0)
    ∗ ((bigSep Finset.univ fun k : Option K => atPos ER (gcell (c, k)) 0 ∅ 0) ∗ bigSep Finset.univ fun k : Option K => reached ER (gcell (c, k)) 0) ∗ toks c)

/-- What it holds once the cells' invariants stand. -/
def G' (c : Dev nD) : sProp 𝕄 := iprop(∃ κ, ghost m ρ κ c)

theorem minted : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Option K => Φ (gcell (c, k)) := by
    unfold theCells; rw [bigSep_map, bigSep_univ_prod]; rfl
  have hT : bigSep theToks (fun x => (dutyTok ER x.1 x.2.1 x.2.2 : sProp 𝕄)) ⊢ bigSep Finset.univ fun c : Dev nD => toks c := by
    unfold theToks
    rw [bigSep_map, bigSep_univ_prod, bigSep_univ_prod]
    exact bigSep_mono fun c _ => toks_intro c
  iintro HX
  imod (Rounds.fund ER (Rd m ρ) theCells theToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G
  simp only [bigSep_sep']
  isplitl [Hst]; · iexact Hst
  isplitl [Hat Hr]
  · isplitl [Hat]
    · iexact Hat
    · iexact Hr
  iexact Htok

/-! ## The invariants -/

theorem ownSemFacts : Pipeline.OwnSemFacts cfg0.spec osem := by decide

omit [FloatOps F] in
/-- The semaphores of the kernel's own arrays are the DMA cells; -/
theorem own_eq (c : Dev nD) : (Pipeline.ownSems0 (Ix := Unit) (Name := ℕ) (U := UU) (Lvl := ℕ) (Val := Elt F) (τ := τ) osem c : sProp 𝕄)
    = bigSep Finset.univ fun k : K => zero c k := rfl
omit [FloatOps F] in
/-- the barrier is the one semaphore besides. -/
theorem other_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option K => iprop(∃ n : ℕ, cellInv ER (Rd m ρ) n (gcell (c, k))))
          ∗ ((bigSep Finset.univ fun k : Option K => atPos ER (gcell (c, k)) 0 ∅ 0) ∗ bigSep Finset.univ fun k : Option K => reached ER (gcell (c, k)) 0) ∗ toks c) := by
  rw [own_eq, other_eq]
  unfold G
  iintro ⟨Hos, Hus, Hst, Hat, Htok⟩
  ihave Hv := (Entails.of_eq (all_cells fun k : Option K => (semVal (gcell (c, k)) 0 : sProp 𝕄)).symm) $$ [Hos Hus]
  · isplitl [Hus]
    · iexact Hus
    · iexact Hos
  imod (show iprop((bigSep Finset.univ fun k : Option K => semVal (gcell (c, k)) 0) ∗ bigSep Finset.univ fun k : Option K => roundState ER (Rd m ρ) (gcell (c, k)) 0)
      ⊢ (|={Set.univ}=> bigSep Finset.univ fun k => iprop(∃ n : ℕ, cellInv ER (Rd m ρ) n (gcell (c, k))) : sProp 𝕄) from by
        rw [← bigSep_sep']
        exact (bigSep_mono fun k _ => (Rounds.body_intro ER (Rd m ρ) (gcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the payers -/

omit [FloatOps F] in
theorem six_comm (Φ : Dev nD → Fin 2 → Fin 3 → sProp 𝕄) : (bigSep Finset.univ fun c => six (Φ c)) = six fun h o => bigSep Finset.univ fun c => Φ c h o := by
  unfold six
  rw [← bigSep_univ_prod (fun x : Dev nD × (Fin 2 × Fin 3) => Φ x.1 x.2.1 x.2.2),
    bigSep_univ_equiv (Equiv.prodComm (Fin 2 × Fin 3) (Dev nD)) (fun x : Dev nD × (Fin 2 × Fin 3) => Φ x.1 x.2.1 x.2.2), bigSep_univ_prod]
  rfl

omit [FloatOps F] in
/-- A resource of each device and distance, dealt to the device that distance before. -/
theorem six_shift (Φ : Dev nD → Fin 2 → Fin 3 → sProp 𝕄) :
    (bigSep Finset.univ fun c => six (Φ c)) = bigSep Finset.univ fun c => six fun h o => Φ (pe c o) h o := by
  rw [six_comm, six_comm]
  unfold six
  exact bigSep_congr fun t _ => bigSep_univ_equiv (shift t.2) (fun c => Φ c t.1 t.2)

omit [FloatOps F] in
theorem toks_dealt : (bigSep Finset.univ fun c : Dev nD => (toks c : sProp 𝕄)) ⊢ bigSep Finset.univ fun c : Dev nD => payToks c := by
  have eb (d : Fin 3) : (bigSep Finset.univ fun c : Dev nD => (dutyTok ER (barCell c) 0 d : sProp 𝕄)) = bigSep Finset.univ fun c : Dev nD => dutyTok ER (barCell (pe c d)) 0 d :=
    bigSep_univ_equiv (shift d) (fun c : Dev nD => (dutyTok ER (barCell c) 0 d : sProp 𝕄))
  unfold toks payToks
  simp only [kinds, bigSep_sep']
  rw [eb 0, eb 1, eb 2, six_shift fun c h o => (tok c (1, h, o) : sProp 𝕄), six_shift fun c h o => (tok c (3, h, o) : sProp 𝕄)]

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option K => iprop(∃ n : ℕ, cellInv ER (Rd m ρ) n (gcell (c, k))))
          ∗ ((bigSep Finset.univ fun k : Option K => atPos ER (gcell (c, k)) 0 ∅ 0) ∗ bigSep Finset.univ fun k : Option K => reached ER (gcell (c, k)) 0) ∗ toks c) : sProp 𝕄)
      ⊢ bigSep Finset.univ (G' m ρ) := by
  have hp : (bigSep Finset.univ fun c : Dev nD => bigSep Finset.univ fun k : Option K => atPos ER (gcell (c, k)) 0 ∅ 0 : sProp 𝕄) ⊢ bigSep Finset.univ fun c : Dev nD => poss c :=
    bigSep_mono fun c _ => Entails.of_eq (show (bigSep Finset.univ fun k : Option K => atPos ER (gcell (c, k)) 0 ∅ 0 : sProp 𝕄) = poss c by
      rw [all_cells, kinds]; rfl)
  rw [bigSep_sep', bigSep_sep', bigSep_sep', ← bigSep_univ_prod (fun p : CI => iprop(∃ n : ℕ, cellInv ER (Rd m ρ) n (gcell p))),
    ← bigSep_univ_prod (fun p : CI => (reached ER (gcell p) 0 : sProp 𝕄))]
  iintro ⟨HI, ⟨Hat, #HR⟩, Htok⟩
  ihave HK := (BI.bigSep_exists_pi Finset.univ (fun (p : CI) (n : ℕ) => (cellInv ER (Rd m ρ) n (gcell p) : sProp 𝕄))) $$ HI
  icases HK with ⟨%κ, #HI⟩
  ihave Htk := (toks_dealt (F := F)) $$ Htok
  iapply (bigSep_beside (R := records m ρ κ) (Φ := fun c => linear c) fun c _ => show iprop(records m ρ κ ∗ linear c) ⊢ G' m ρ c from by
    unfold G' ghost; iintro H; iexists κ; iexact H)
  isplitr
  · unfold records; isplitl; · iexact HI
    iexact HR
  · unfold linear
    rw [bigSep_sep']
    isplitl [Hat]
    · iapply hp
      iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem cred_add_eq (S T : CellTallies nD τ sig Unit) : (cred (S + T) : sProp 𝕄) = iprop(cred S ∗ cred T) := BI.Entails.antisymm (cred_add S T).1 (cred_add S T).2

omit [FloatOps F] in
theorem got_cons (c : Dev nD) (e : Due) (l : List Due) : (cred (got c (e :: l)) : sProp 𝕄) = iprop(cred (got c l) ∗ cred (tallyAt ((c : Thread nD τ), e.2.1) () e.2.2)) :=
  cred_add_eq _ _

omit [FloatOps F] in
theorem creds_intro (c : Dev nD) : (Pipeline.launchCred (fun d => owe d dues0) c : sProp 𝕄) ⊢ creds c := by
  have e3 : (cred (tallyAt (barCell c) () 3) : sProp 𝕄) = iprop((cred (tallyAt (barCell c) () 1) ∗ cred (tallyAt (barCell c) () 1)) ∗ cred (tallyAt (barCell c) () 1)) := by
    rw [← cred_add_eq, ← cred_add_eq, tallyAt_add, tallyAt_add]
  rw [launch_got]
  unfold creds
  rw [six_eq, six_eq, e3]
  simp only [dues0, dues1, dues2, dues3, got_cons]
  iintro ⟨⟨⟨⟨⟨⟨⟨⟨⟨⟨⟨⟨⟨⟨⟨-, H12⟩, H11⟩, H10⟩, H02⟩, H01⟩, H00⟩, G12⟩, G10⟩, G11⟩, G02⟩, G00⟩, G01⟩, B2⟩, B1⟩, B0⟩
  isplitl [B0 B1 B2]
  · iframe
  isplitl [G00 G01 G02 G10 G11 G12]
  · iframe
  iframe

/-! ## Entry and exit -/

theorem start_intro (c : Dev nD) :
    iprop(Pipeline.unscopedRestP Pipeline.Prefetch.none cfg0.spec c (fun b => m ((c : Thread nD τ).loc b)) ∗ levAts L lv
        ∗ Pipeline.launchCred (fun d => owe d dues0) c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iapply (scr_eq c).2
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_eq, other_eq, kinds]
  unfold Φ₁ zeros
  iintro ⟨Hr, Hz, HzB⟩
  isplitl [HzB]; · iexact HzB
  isplitl [Hz]; · iexact Hz
  iapply (scr_eq c).1
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ dues0 ?_
      fin_cases w <;> fin_cases s <;> decide
    · refine mayWait c _ [] none_due

theorem share_eq (c : Dev nD) (w : Fin cfg0.W) : (dats m ρ 0 c).share w = fullShare := by unfold Dat.share; split <;> rfl

/-! ## The run -/

/-- The final contents of a window's array. -/
def finalA (c : Dev nD) (w : Fin cfg0.W) : Buf (Elt F) ((cfg0.win w).arr.view.loc (c : Thread nD τ)) := (dats m ρ 0 c).arrAt w cfg0.N

set_option maxRecDepth 8000 in
/-- From any memory with counters at zero, for any float values: every fair execution of the four devices ends, with each
    window's array at its final contents and all counters at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => owe d dues0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (minted m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand after the run holds what it held. -/
theorem finalA_arg (c : Dev nD) : finalA m ρ c (0 : Fin 2) = m ((c : Thread nD τ).loc main_arg0) :=
  (dats (F := F) m ρ 0 c).arrAt_in (0 : Fin 2) rfl _

end Cert.Tanh4

end
-- ==== Proof.Value.lean ====
/-
# The result over the extended reals

Rounding to bf16 is then the identity, so every device holds the same result array: at each row and column the function of
the sum over the four devices' operands. The reference's result is the function of the sum over the four blocks of its
operand, of which the devices hold one each.
-/
module

public import proofs.«01_k».proof.Proof.Launch
public import proofs.«01_k».proof.Proof.Gen.ReferenceIdeal.Run
public import Idealize.ShloMosaic.PureOps.Ideal
public import Idealize.ShloMosaic.PureOps.Ideal.Laws
public import Idealize.ShloMosaic.Lib.IdealHost
public import Idealize.ShloMosaic.Lib.Layout
public import Idealize.ShloMosaic.Lib.Pipeline.Value
public import Idealize.ShloMosaic.Lib.Pointwise.Reduce

@[expose] public section

noncomputable section

namespace Cert.Tanh4

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-! ## The arrays around the body -/

section
variable (m : (ℓ : Loc nD τ sig) → Buf (Elt F) ℓ) (ρ : Dev nD → PrngReg)

/-- The staged operand is the operand. -/
theorem xstg_eq (c : Dev nD) : xstg m ρ c = m ((c : Thread nD τ).loc main_arg0) := by
  funext i
  unfold xstg
  rw [View.read_apply]
  have e : (win0_0.blk (0 : Fin 1)).view.emb i = i := by
    funext a; apply Fin.ext
    show (Fin.val _) = _
    fin_cases a
    · show 0 * 1024 + 1 * (i 0).val = (i 0).val; omega
    · show 0 * 512 + 1 * (i 1).val = (i 1).val; omega
  rw [e]; rfl

/-- The result array after the run holds what the body leaves. -/
theorem finalA_out (c : Dev nD) : finalA m ρ c (1 : Fin 2) = outAt m ρ c := by
  have emb (i : S1024x512.Idx) : (win0_1.blk (0 : Fin 1)).view.emb i = i := by
    funext a; apply Fin.ext
    fin_cases a
    · show 0 * 1024 + 1 * (i 0).val = (i 0).val; omega
    · show 0 * 512 + 1 * (i 1).val = (i 1).val; omega
  refine (dats m ρ 0 c).arrAt_eq_of_cover (1 : Fin 2) (outAt m ρ c) (fun t _ => ?_) fun i => ⟨(0 : Fin 1), flush0_1 _, ?_⟩
  · obtain rfl := fin_N0 t
    funext i
    rw [View.read_apply]
    exact congrArg (outAt m ρ c) (emb i).symm
  · have h := (win0_1.blk (0 : Fin 1)).view.emb_mem_set i
    rw [emb i] at h
    exact h
end

/-! ## One element -/

/-- The function of one sum. -/
def act (s : EReal) : EReal := Ideal.tanh s * s * s + max s 0 * max s 0 * max s 0

theorem fn_apply (x0 x1 x2 x3 : Vec Ideal S128x512 .bf16) (i : S128x512.Idx) :
    fn x0 x1 x2 x3 i = act ((x0 i : EReal) + x1 i + x2 i + x3 i) := by
  unfold act
  rw [← Ideal.ofBits_zero_f32]
  rfl

/-- A sum over the devices, begun at any of them. -/
theorem sum_from (f : Dev nD → EReal) : ∀ p : Dev nD, f p + f (og p 0) + f (og p 1) + f (og p 2) = ∑ d : Fin 4, f d := by
  have e : ∑ d : Fin 4, f d = f 0 + f 1 + f 2 + f 3 := Fin.sum_univ_four f
  rw [e]
  have h0 : f 0 + f (og 0 0) + f (og 0 1) + f (og 0 2) = f 0 + f 3 + f 2 + f 1 := rfl
  have h1 : f 1 + f (og 1 0) + f (og 1 1) + f (og 1 2) = f 1 + f 0 + f 3 + f 2 := rfl
  have h2 : f 2 + f (og 2 0) + f (og 2 1) + f (og 2 2) = f 2 + f 1 + f 0 + f 3 := rfl
  have h3 : f 3 + f (og 3 0) + f (og 3 1) + f (og 3 2) = f 3 + f 2 + f 1 + f 0 := rfl
  intro p
  fin_cases p
  · exact h0.trans (by ac_rfl)
  · exact h1.trans (by ac_rfl)
  · exact h2.trans (by ac_rfl)
  · exact h3.trans (by ac_rfl)

/-! ## The kernel's result -/

section
variable (m : (ℓ : Loc nD τ sig) → Buf (Elt Ideal) ℓ) (ρ : Dev nD → PrngReg)

/-- A device's operand. -/
def arg (d : Dev nD) : S1024x512.Idx → EReal := m ((d : Thread nD τ).loc main_arg0)

/-- Any device holds, of any block, what the device which finished it computed. -/
theorem val_eq (c p : Dev nD) (h : Fin 2) : val m ρ c p h = fin m ρ p h := by
  unfold val
  by_cases e : p = c
  · rw [if_pos e, e]
  · rw [if_neg e]; rfl

theorem fin_apply (p : Dev nD) (h : Fin 2) (i : S128x512.Idx) : fin m ρ p h i = act (∑ d : Fin 4, arg m d ((rowR p h).emb i)) := by
  have hx (d : Dev nD) : (xr m ρ d p h i : EReal) = arg m d ((rowR p h).emb i) := congrFun (xstg_eq m ρ d) _
  unfold fin
  rw [fn_apply, hx, hx, hx, hx, sum_from fun d => arg m d ((rowR p h).emb i)]

/-- Every device's result: the function of the sum of the operands. -/
theorem outAt_apply (c : Dev nD) (j : S1024x512.Idx) : outAt m ρ c j = act (∑ d : Fin 4, arg m d j) := by
  obtain ⟨p, h, i, rfl⟩ := rowR_cover j
  exact (congrFun (rows_outAt m ρ c p h) i).trans ((congrFun (val_eq m ρ c p h) i).trans (fin_apply m ρ p h i))

end

/-! ## The reference's result -/

/-- The four blocks of the reference's operand added up. -/
def blockSum (X : Cert.ReferenceIdeal.S4096x512.Idx → EReal) (j : S1024x512.Idx) : EReal :=
  ∑ d : Fin 4, X (ix2 (⟨1024 * d.val + (j 0).val, by have h : (j 0).val < 1024 := (j 0).isLt; have := d.isLt; omega⟩ : Fin 4096) (⟨(j 1).val, (j 1).isLt⟩ : Fin 512))

section
open Cert.ReferenceIdeal (S4096x512 S4x1024x512)
open Cert.ReferenceIdeal.Facts₀ (shapeCasts_S4096x512_S4x1024x512 reducesTo_S4x1024x512_S1024x512_d0 h_S_)

/-- The reference's sum over the outermost of three axes. -/
def refSum (X : FVec Ideal S4096x512 .bf16) : FVec Ideal S1024x512 .f32 :=
  Host.reduceAdd (shapeCast S4x1024x512 (extf .f32 X Cert.ReferenceIdeal.Facts₀.bitsLt_bf16_f32) shapeCasts_S4096x512_S4x1024x512)
    (constant Cert.ReferenceIdeal.S_ .f32 0x00000000#32) reducesTo_S4x1024x512_S1024x512_d0 h_S_

theorem refSum_apply (X : FVec Ideal S4096x512 .bf16) (j : S1024x512.Idx) : refSum X j = blockSum X j := by
  unfold refSum blockSum
  rw [ValueIdx.hostReduceAdd_apply, Ideal.hostReduceAdd_r3_a0]
  have hz : (constant Cert.ReferenceIdeal.S_ .f32 0x00000000#32 : FVec Ideal Cert.ReferenceIdeal.S_ .f32) (Shape.Idx.first h_S_) = (0 : EReal) := Ideal.ofBits_zero_f32
  rw [hz, zero_add]
  refine Finset.sum_congr rfl fun d _ => ?_
  refine shapeCast_apply _ _ _ _ ?_
  rw [Shape.rowMajor_val_two, Shape.rowMajor_val_three]
  show (1024 * d.val + (j 0).val) * 512 + (j 1).val = (d.val * 1024 + (j 0).val) * 512 + (j 1).val
  rw [Nat.mul_comm 1024]

/-- The reference's result in terms of its sum. -/
def refOut (X : FVec Ideal S4096x512 .bf16) : FVec Ideal S1024x512 .f32 :=
  let r := maximumf (refSum X) (broadcastInDim S1024x512 ![] Cert.ReferenceIdeal.Facts₀.bcast_S_S1024x512 (constant Cert.ReferenceIdeal.S_ .f32 0x00000000#32))
  addf (mulf (mulf (Host.tanh (refSum X)) (refSum X)) (refSum X)) (mulf (mulf r r) r)

theorem refOut_apply (X : FVec Ideal S4096x512 .bf16) (j : S1024x512.Idx) : refOut X j = act (blockSum X j) := by
  rw [← refSum_apply]
  unfold act
  rw [← Ideal.ofBits_zero_f32]
  rfl

end

/-! ## The two together -/

section
variable (m : (ℓ : Loc nD τ sig) → Buf (Elt Ideal) ℓ) (ρ : Dev nD → PrngReg)

/-- If each device's operand is its block of one array, every device's result is the reference's of that array. -/
theorem outAt_eq_refOut (X : FVec Ideal Cert.ReferenceIdeal.S4096x512 .bf16)
    (hX : ∀ d : Dev nD, arg m d = Layout.block ⟨2, ![1024, 512]⟩ ⟨2, ![4096, 512]⟩ 0 4 d X) (c : Dev nD) : outAt m ρ c = refOut X := by
  funext j
  rw [outAt_apply, refOut_apply]
  unfold blockSum
  refine congrArg act (Finset.sum_congr rfl fun d _ => ?_)
  rw [hX d, Layout.block_apply]
  refine congrArg X (funext fun a => Fin.ext ?_)
  fin_cases a
  · show d.val * 1024 + (j 0).val = 1024 * d.val + (j 0).val
    rw [Nat.mul_comm]
  · rfl

end

end Cert.Tanh4

end
-- ==== Proof.Same.lean ====
/-
# One text, two readings

The kernel and its idealisation are the same program: what is proved of one for any float values holds of the other.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Tanh4

open Idealize.ShloMosaic Idealize.SL.Sem

variable {F : FTy → Type} [FloatOps F]

/-- The bodies are equal; -/
theorem same_body : Cert.Kernel.cc0_body (F := F) = Cert.KernelIdeal.cc0_body (F := F) := rfl

/-- so are the tables of the one body, -/
theorem same_defs₀ : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => exact congrFun (congrFun (congrFun (congrFun (congrFun (congrFun (congrFun (congrFun (congrFun (congrFun (congrFun (congrFun (congrFun (congrFun (congrFun (congrFun same_body _) _) _) _) _) _) _) _) _) _) _) _) _) _) _) _
  | ⟨n + 1, h⟩, _ => exact absurd h (Nat.not_lt.2 (Nat.le_add_left 1 n))

/-- and the tables with the launch. -/
theorem same_defs : Cert.Kernel.defs (F := F) = Cert.KernelIdeal.defs (F := F) :=
  congrArg (Pipeline.defs (Cert.KernelIdeal.pcfgs (F := F))) same_defs₀

end Cert.Tanh4

end
-- ==== Proof.lean ====
/-
# The claims

The two readings of the kernel have the same text, so both frames come from one run, proved for any float values. The
algebraic claim compares the result of that run over the extended reals with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init
public import Idealize.ShloMosaic.Lib.StableHlo.Run

@[expose] public section

noncomputable section

namespace Cert.Proof

open Idealize.ShloMosaic Idealize.SL.Sem Cert.Kernel

/-- The kernel over machine floats ends, its operand unchanged and its counters at zero; -/
theorem frame_kernel : Cert.quiescent_Kernel := by
  intro m g _
  rw [Cert.Tanh4.same_defs]
  exact (θ_run Cert.KernelIdeal.defs _ _).mono (fun _ h => And.intro (fun c => (h.1 c 0).trans (Cert.Tanh4.finalA_arg (F := Bits) m g c)) h.2)
    (Cert.Tanh4.run_main (F := Bits) m g)

/-- and over the extended reals. -/
theorem frame_kernelIdeal : Cert.quiescent_KernelIdeal := fun m g _ =>
  (θ_run Cert.KernelIdeal.defs _ _).mono (fun _ h => ⟨fun c => (h.1 c 0).trans (Cert.Tanh4.finalA_arg m g c), h.2⟩) (Cert.Tanh4.run_main (F := Ideal) m g)

/-- The reference ends with its operand unchanged; it has no semaphores but the machine's own, which it does not touch. -/
theorem frame_reference : Cert.quiescent_ReferenceIdeal := fun m g _ => by
  refine (θ_run Cert.ReferenceIdeal.defs _ _).mono (fun _ h => ?_) (Cert.ReferenceIdeal.Value.run (F := Ideal) m g)
  exact ⟨fun c => (h c).2, sem_eq_zero_of_no_sems (by decide) _⟩

/-- From memories where the devices hold the reference's operand by blocks, every device ends with the reference's result. -/
theorem same_result : Cert.algebraic_KernelIdeal_ReferenceIdeal := fun m g m' g' _ hm =>
  ⟨Cert.Tanh4.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c 1).trans ((Cert.Tanh4.finalA_out m g c).trans (Cert.Tanh4.outAt_eq_refOut m g _ hm c)), (h.1 c 0).trans (Cert.Tanh4.finalA_arg m g c)⟩)
      (Cert.Tanh4.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_kernelIdeal, frame_reference, trivial, same_result⟩

end Cert.Proof

end
